-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_splits_in_lanes [hPre_splits_in_lanes : Cert.Pre_splits_in_lanes.Facts] (m : (ℓ : Loc Cert.KernelIdeal.nD Cert.KernelIdeal.τ Cert.KernelIdeal.sig) → Buf (Elt Ideal) ℓ) : Prop :=
  ∀ c : Dev Cert.KernelIdeal.nD,
    (Cert.Pre_splits_in_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_splits_in_lanes [hPre_splits_in_lanes : Cert.Pre_splits_in_lanes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_splits_in_lanes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_splits_in_lanes [hKernelIdeal : Cert.KernelIdeal.Facts] [hPre_splits_in_lanes : Cert.Pre_splits_in_lanes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_splits_in_lanes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_splits_in_lanes [hReferenceIdeal : Cert.ReferenceIdeal.Facts] [hPre_splits_in_lanes : Cert.Pre_splits_in_lanes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_splits_in_lanes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S16x128 Cert.KernelIdeal.S8x128
  ∧ IdealRules.bf16_pair.PackStatement Cert.KernelIdeal.S8x128

def algebraic_KernelIdeal_ReferenceIdeal_pre_splits_in_lanes [hKernelIdeal : Cert.KernelIdeal.Facts] [hReferenceIdeal : Cert.ReferenceIdeal.Facts] [hPre_splits_in_lanes : Cert.Pre_splits_in_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_splits_in_lanes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_splits_in_lanes : Cert.Pre_splits_in_lanes.Facts),
    quiescent_Kernel (hKernel := hKernel)
    ∧ quiescent_KernelIdeal (hKernelIdeal := hKernelIdeal)
    ∧ quiescent_KernelIdeal_pre_splits_in_lanes (hKernelIdeal := hKernelIdeal) (hPre_splits_in_lanes := hPre_splits_in_lanes)
    ∧ quiescent_ReferenceIdeal (hReferenceIdeal := hReferenceIdeal)
    ∧ quiescent_ReferenceIdeal_pre_splits_in_lanes (hReferenceIdeal := hReferenceIdeal) (hPre_splits_in_lanes := hPre_splits_in_lanes)
    ∧ preserves_Kernel_KernelIdeal
    ∧ algebraic_KernelIdeal_ReferenceIdeal_pre_splits_in_lanes (hKernelIdeal := hKernelIdeal) (hReferenceIdeal := hReferenceIdeal) (hPre_splits_in_lanes := hPre_splits_in_lanes)
-- ==== Pre_splits_in_lanes.lean ====
abbrev S8x2048x4096 : Shape := ⟨3, ![8, 2048, 4096]⟩
abbrev S128x4 : Shape := ⟨2, ![128, 4]⟩
abbrev S128x15 : Shape := ⟨2, ![128, 15]⟩
abbrev S128x16x11008 : Shape := ⟨3, ![128, 16, 11008]⟩
abbrev S128 : Shape := ⟨1, ![128]⟩
abbrev S_ : Shape := ⟨0, ![]⟩
abbrev S128x1 : Shape := ⟨2, ![128, 1]⟩

class Facts : Prop where
  bcast_S_S128x4 : S_.BroadcastsInDim S128x4 (![] : Fin 0 → Fin S128x4.rank)
  bcast_S_S128 : S_.BroadcastsInDim S128 (![] : Fin 0 → Fin S128.rank)
  bcast_S128_S128x1_0 : S128.BroadcastsInDim S128x1 (![0] : Fin 1 → Fin S128x1.rank)
  bcast_S128x1_S128x4_0_1 : S128x1.BroadcastsInDim S128x4 (![0, 1] : Fin 2 → Fin S128x4.rank)

variable [Facts]

def fn {F : FTy → Type} [FloatOps F] (main_arg0 : FVec F S8x2048x4096 .bf16) (main_arg1 : IVec S128x4 32) (main_arg2 : FVec F S128x15 .bf16) (main_arg3 : IVec S128x16x11008 8) (main_arg4 : FVec F S128 .f32) : IVec S128x4 1 :=
  let main_c : IVec S_ 32 := constantI S_ 32 7#32
  let main_v0 : IVec S128x4 32 := broadcastInDim S128x4 ![] bcast_S_S128x4 main_c
  let main_v1 : IVec S128x4 32 := Host.shrsi main_arg1 main_v0
  let main_v2 : IVec S128 32 := iotaInDim S128 32 0
  let main_c_0 : IVec S_ 32 := constantI S_ 32 2#32
  let main_v3 : IVec S128 32 := broadcastInDim S128 ![] bcast_S_S128 main_c_0
  let main_v4 : IVec S128 32 := Host.shrsi main_v2 main_v3
  let main_v5 : IVec S128x1 32 := broadcastInDim S128x1 ![0] bcast_S128_S128x1_0 main_v4
  let main_v6 : IVec S128x4 32 := broadcastInDim S128x4 ![0, 1] bcast_S128x1_S128x4_0_1 main_v5
  let main_v7 : IVec S128x4 1 := cmpi .eq main_v1 main_v6
  main_v7
-- ==== Kernel.lean ====
abbrev S8x2048x4096 : Shape := ⟨3, ![8, 2048, 4096]⟩
abbrev S128x4 : Shape := ⟨2, ![128, 4]⟩
abbrev S128x15 : Shape := ⟨2, ![128, 15]⟩
abbrev S128x16x11008 : Shape := ⟨3, ![128, 16, 11008]⟩
abbrev S128 : Shape := ⟨1, ![128]⟩
abbrev S4 : Shape := ⟨1, ![4]⟩
abbrev S4x1 : Shape := ⟨2, ![4, 1]⟩
abbrev S_ : Shape := ⟨0, ![]⟩
abbrev S1x128 : Shape := ⟨2, ![1, 128]⟩
abbrev S4x128 : Shape := ⟨2, ![4, 128]⟩
abbrev S4x128x1 : Shape := ⟨3, ![4, 128, 1]⟩
abbrev S4x128x2 : Shape := ⟨3, ![4, 128, 2]⟩
abbrev S4x1x128 : Shape := ⟨3, ![4, 1, 128]⟩
abbrev S4x8x128 : Shape := ⟨3, ![4, 8, 128]⟩
abbrev S15x128 : Shape := ⟨2, ![15, 128]⟩
abbrev S15x1x128 : Shape := ⟨3, ![15, 1, 128]⟩
abbrev S15x16x128 : Shape := ⟨3, ![15, 16, 128]⟩
abbrev S128x16 : Shape := ⟨2, ![128, 16]⟩
abbrev S2048 : Shape := ⟨1, ![2048]⟩
abbrev S2048x1 : Shape := ⟨2, ![2048, 1]⟩
abbrev S2048x128 : Shape := ⟨2, ![2048, 128]⟩
abbrev S16384x4096 : Shape := ⟨2, ![16384, 4096]⟩
abbrev S2048x11008 : Shape := ⟨2, ![2048, 11008]⟩
abbrev S16384x11008 : Shape := ⟨2, ![16384, 11008]⟩
abbrev S16384x64 : Shape := ⟨2, ![16384, 64]⟩
abbrev S512x4096 : Shape := ⟨2, ![512, 4096]⟩
abbrev S512x11008 : Shape := ⟨2, ![512, 11008]⟩
abbrev S512x64 : Shape := ⟨2, ![512, 64]⟩
abbrev S512x2048 : Shape := ⟨2, ![512, 2048]⟩
abbrev S8x128 : Shape := ⟨2, ![8, 128]⟩
abbrev S16x128 : Shape := ⟨2, ![16, 128]⟩
abbrev S1x8x128 : Shape := ⟨3, ![1, 8, 128]⟩
abbrev S8x128x1 : Shape := ⟨3, ![8, 128, 1]⟩
abbrev S1x16x128 : Shape := ⟨3, ![1, 16, 128]⟩
abbrev S32x128 : Shape := ⟨2, ![32, 128]⟩
abbrev S32x64 : Shape := ⟨2, ![32, 64]⟩
abbrev S2048x1024 : Shape := ⟨2, ![2048, 1024]⟩
abbrev S512x1024 : Shape := ⟨2, ![512, 1024]⟩
abbrev S2048x768 : Shape := ⟨2, ![2048, 768]⟩
abbrev S512x768 : Shape := ⟨2, ![512, 768]⟩

abbrev nBuf : Space → Nat
  | .hbm => 135
  | .vmem => 10
  | .smem => 0
  | _ => 0

abbrev hbmTy0_0 (i : Nat) : BufTy := match i % 128 with
  | 0 => ⟨S8x2048x4096, .bf16⟩
  | 1 => ⟨S128x4, .i32⟩
  | 2 => ⟨S128x15, .bf16⟩
  | 3 => ⟨S128x16x11008, .i8⟩
  | 4 => ⟨S128, .f32⟩
  | 5 => ⟨S128, .i32⟩
  | 6 => ⟨S4, .i32⟩
  | 7 => ⟨S4x1, .i32⟩
  | 8 => ⟨S_, .i32⟩
  | 9 => ⟨S4x1, .i32⟩
  | 10 => ⟨S4x1, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S128, .i32⟩
  | 18 => ⟨S128, .i32⟩
  | 19 => ⟨S_, .i32⟩
  | 20 => ⟨S128, .i32⟩
  | 21 => ⟨S128, .i1⟩
  | 22 => ⟨S_, .i32⟩
  | 23 => ⟨S128, .i32⟩
  | 24 => ⟨S128, .i1⟩
  | 25 => ⟨S_, .i32⟩
  | 26 => ⟨S_, .i1⟩
  | 27 => ⟨S128, .i1⟩
  | 28 => ⟨S128, .i1⟩
  | 29 => ⟨S128, .i1⟩
  | 30 => ⟨S128, .i32⟩
  | 31 => ⟨S128, .i32⟩
  | 32 => ⟨S128, .i32⟩
  | 33 => ⟨S1x128, .i32⟩
  | 34 => ⟨S4x128, .i32⟩
  | 35 => ⟨S4x128, .i32⟩
  | 36 => ⟨S4x128, .i32⟩
  | 37 => ⟨S_, .i32⟩
  | 38 => ⟨S_, .i32⟩
  | 39 => ⟨S128, .i32⟩
  | 40 => ⟨S128, .i32⟩
  | 41 => ⟨S128, .i32⟩
  | 42 => ⟨S_, .i32⟩
  | 43 => ⟨S128, .i32⟩
  | 44 => ⟨S128, .i1⟩
  | 45 => ⟨S128, .i32⟩
  | 46 => ⟨S128, .i32⟩
  | 47 => ⟨S_, .i32⟩
  | 48 => ⟨S128, .i32⟩
  | 49 => ⟨S128, .i1⟩
  | 50 => ⟨S128, .i1⟩
  | 51 => ⟨S_, .i32⟩
  | 52 => ⟨S128, .i32⟩
  | 53 => ⟨S128, .i32⟩
  | 54 => ⟨S128, .i32⟩
  | 55 => ⟨S1x128, .i32⟩
  | 56 => ⟨S4x128, .i32⟩
  | 57 => ⟨S4x128, .i32⟩
  | 58 => ⟨S4x128, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S4x128, .i32⟩
  | 66 => ⟨S4x128, .i32⟩
  | 67 => ⟨S_, .i32⟩
  | 68 => ⟨S4x128, .i32⟩
  | 69 => ⟨S4x128, .i1⟩
  | 70 => ⟨S_, .i32⟩
  | 71 => ⟨S4x128, .i32⟩
  | 72 => ⟨S4x128, .i1⟩
  | 73 => ⟨S_, .i32⟩
  | 74 => ⟨S_, .i1⟩
  | 75 => ⟨S4x128, .i1⟩
  | 76 => ⟨S4x128, .i1⟩
  | 77 => ⟨S4x128, .i1⟩
  | 78 => ⟨S4x128, .i32⟩
  | 79 => ⟨S4x128, .i32⟩
  | 80 => ⟨S4x128, .i32⟩
  | 81 => ⟨S_, .i32⟩
  | 82 => ⟨S4x128, .i32⟩
  | 83 => ⟨S4x128, .i1⟩
  | 84 => ⟨S_, .i32⟩
  | 85 => ⟨S4x128, .i32⟩
  | 86 => ⟨S4x128, .i32⟩
  | 87 => ⟨S4x128, .i32⟩
  | 88 => ⟨S_, .i32⟩
  | 89 => ⟨S4x128, .i32⟩
  | 90 => ⟨S4x128, .i1⟩
  | 91 => ⟨S_, .i32⟩
  | 92 => ⟨S4x128, .i32⟩
  | 93 => ⟨S4x128, .i32⟩
  | 94 => ⟨S4x128, .i32⟩
  | 95 => ⟨S4x128x1, .i32⟩
  | 96 => ⟨S4x128x1, .i32⟩
  | 97 => ⟨S4x128x2, .i32⟩
  | 98 => ⟨S4x128, .i32⟩
  | 99 => ⟨S_, .i32⟩
  | 100 => ⟨S_, .i32⟩
  | 101 => ⟨S4x128, .i32⟩
  | 102 => ⟨S4x128, .i32⟩
  | 103 => ⟨S4x128, .i32⟩
  | 104 => ⟨S_, .i32⟩
  | 105 => ⟨S4x128, .i32⟩
  | 106 => ⟨S4x128, .i1⟩
  | 107 => ⟨S4x128, .i32⟩
  | 108 => ⟨S4x128, .i32⟩
  | 109 => ⟨S_, .i32⟩
  | 110 => ⟨S4x128, .i32⟩
  | 111 => ⟨S4x128, .i1⟩
  | 112 => ⟨S4x128, .i1⟩
  | 113 => ⟨S_, .i32⟩
  | 114 => ⟨S4x128, .i32⟩
  | 115 => ⟨S4x128, .i32⟩
  | 116 => ⟨S4x128, .i32⟩
  | 117 => ⟨S_, .i32⟩
  | 118 => ⟨S4x128, .i32⟩
  | 119 => ⟨S4x128, .i32⟩
  | 120 => ⟨S4x128, .i32⟩
  | 121 => ⟨S4x1x128, .i32⟩
  | 122 => ⟨S4x8x128, .i32⟩
  | 123 => ⟨S15x128, .bf16⟩
  | 124 => ⟨S15x1x128, .bf16⟩
  | 125 => ⟨S15x16x128, .bf16⟩
  | 126 => ⟨S128, .bf16⟩
  | 127 => ⟨S128x16, .bf16⟩
  | _ => ⟨S8x2048x4096, .bf16⟩

abbrev hbmTy0_1 (i : Nat) : BufTy := match i % 128 with
  | 0 => ⟨S2048, .bf16⟩
  | 1 => ⟨S2048x1, .bf16⟩
  | 2 => ⟨S2048x128, .bf16⟩
  | 3 => ⟨S16384x4096, .bf16⟩
  | 4 => ⟨S2048x11008, .i8⟩
  | 5 => ⟨S16384x11008, .bf16⟩
  | 6 => ⟨S16384x64, .i8⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S4x8x128, .i32⟩
  | .local _ .vmem, ⟨3, _⟩ => ⟨S15x16x128, .bf16⟩
  | .local _ .vmem, ⟨4, _⟩ => ⟨S2048x128, .bf16⟩
  | .local _ .vmem, ⟨5, _⟩ => ⟨S2048x11008, .i8⟩
  | .local _ .vmem, ⟨6, _⟩ => ⟨S512x11008, .bf16⟩
  | .local _ .vmem, ⟨7, _⟩ => ⟨S512x64, .i8⟩
  | .local _ .vmem, ⟨8, _⟩ => ⟨S512x64, .i8⟩
  | .local _ .vmem, ⟨9, _⟩ => ⟨S512x2048, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v15 : Ref sig .tc := ⟨.hbm, 80, rfl⟩
abbrev main_c_3 : Ref sig .tc := ⟨.hbm, 81, rfl⟩
abbrev main_v16 : Ref sig .tc := ⟨.hbm, 82, rfl⟩
abbrev main_v17 : Ref sig .tc := ⟨.hbm, 83, rfl⟩
abbrev main_c_4 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_c_5 : Ref sig .tc := ⟨.hbm, 88, rfl⟩
abbrev main_v21 : Ref sig .tc := ⟨.hbm, 89, rfl⟩
abbrev main_v22 : Ref sig .tc := ⟨.hbm, 90, rfl⟩
abbrev main_c_6 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_c_7 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v30 : Ref sig .tc := ⟨.hbm, 116, rfl⟩
abbrev main_c_8 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46_0 : Ref sig .tc := ⟨.hbm, 133, rfl⟩
abbrev main_v46_1 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  v423
def k0_off1 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v459 : Index := Scalar.indexCast v443
  let c0_177 : Index := 0#32
  ![v459.toNat, 0]
def k0_off2 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v486 : Index := Scalar.indexCast v443
  let c128_182 : Index := 128#32
  ![v486.toNat, 128]
def k0_off3 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v513 : Index := Scalar.indexCast v443
  let c256_189 : Index := 256#32
  ![v513.toNat, 256]
def k0_off4 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v540 : Index := Scalar.indexCast v443
  let c384_196 : Index := 384#32
  ![v540.toNat, 384]
def k0_off5 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v567 : Index := Scalar.indexCast v443
  let c512_203 : Index := 512#32
  ![v567.toNat, 512]
def k0_off6 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v594 : Index := Scalar.indexCast v443
  let c640_210 : Index := 640#32
  ![v594.toNat, 640]
def k0_off7 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v621 : Index := Scalar.indexCast v443
  let c768_217 : Index := 768#32
  ![v621.toNat, 768]
def k0_off8 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v648 : Index := Scalar.indexCast v443
  let c896_224 : Index := 896#32
  ![v648.toNat, 896]
def k0_off9 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v684 : Index := Scalar.indexCast v443
  let c1024_233 : Index := 1024#32
  ![v684.toNat, 1024]
def k0_off10 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v711 : Index := Scalar.indexCast v443
  let c1152_240 : Index := 1152#32
  ![v711.toNat, 1152]
def k0_off11 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v738 : Index := Scalar.indexCast v443
  let c1280_247 : Index := 1280#32
  ![v738.toNat, 1280]
def k0_off12 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v765 : Index := Scalar.indexCast v443
  let c1408_254 : Index := 1408#32
  ![v765.toNat, 1408]
def k0_off13 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v792 : Index := Scalar.indexCast v443
  let c1536_261 : Index := 1536#32
  ![v792.toNat, 1536]
def k0_off14 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v819 : Index := Scalar.indexCast v443
  let c1664_268 : Index := 1664#32
  ![v819.toNat, 1664]
def k0_off15 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v846 : Index := Scalar.indexCast v443
  let c1792_275 : Index := 1792#32
  ![v846.toNat, 1792]
def k0_off16 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v873 : Index := Scalar.indexCast v443
  let c1920_282 : Index := 1920#32
  ![v873.toNat, 1920]
def k0_off17 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v909 : Index := Scalar.indexCast v443
  let c2048_291 : Index := 2048#32
  ![v909.toNat, 2048]
def k0_off18 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v936 : Index := Scalar.indexCast v443
  let c2176_298 : Index := 2176#32
  ![v936.toNat, 2176]
def k0_off19 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v963 : Index := Scalar.indexCast v443
  let c2304_305 : Index := 2304#32
  ![v963.toNat, 2304]
def k0_off20 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v990 : Index := Scalar.indexCast v443
  let c2432_312 : Index := 2432#32
  ![v990.toNat, 2432]
def k0_off21 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1017 : Index := Scalar.indexCast v443
  let c2560_319 : Index := 2560#32
  ![v1017.toNat, 2560]
def k0_off22 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1044 : Index := Scalar.indexCast v443
  let c2688_326 : Index := 2688#32
  ![v1044.toNat, 2688]
def k0_off23 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1071 : Index := Scalar.indexCast v443
  let c2816_333 : Index := 2816#32
  ![v1071.toNat, 2816]
def k0_off24 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1098 : Index := Scalar.indexCast v443
  let c2944_340 : Index := 2944#32
  ![v1098.toNat, 2944]
def k0_off25 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1134 : Index := Scalar.indexCast v443
  let c3072_349 : Index := 3072#32
  ![v1134.toNat, 3072]
def k0_off26 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1161 : Index := Scalar.indexCast v443
  let c3200_356 : Index := 3200#32
  ![v1161.toNat, 3200]
def k0_off27 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1188 : Index := Scalar.indexCast v443
  let c3328_363 : Index := 3328#32
  ![v1188.toNat, 3328]
def k0_off28 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1215 : Index := Scalar.indexCast v443
  let c3456_370 : Index := 3456#32
  ![v1215.toNat, 3456]
def k0_off29 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1242 : Index := Scalar.indexCast v443
  let c3584_377 : Index := 3584#32
  ![v1242.toNat, 3584]
def k0_off30 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1269 : Index := Scalar.indexCast v443
  let c3712_384 : Index := 3712#32
  ![v1269.toNat, 3712]
def k0_off31 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1296 : Index := Scalar.indexCast v443
  let c3840_391 : Index := 3840#32
  ![v1296.toNat, 3840]
def k0_off32 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1323 : Index := Scalar.indexCast v443
  let c3968_398 : Index := 3968#32
  ![v1323.toNat, 3968]
def k0_off33 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1542 : Index := Scalar.indexCast v443
  let c0_479 : Index := 0#32
  ![v1542.toNat, 0]
def k0_off34 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1600 : Index := Scalar.indexCast v443
  let c128_496 : Index := 128#32
  ![v1600.toNat, 128]
def k0_off35 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1658 : Index := Scalar.indexCast v443
  let c256_513 : Index := 256#32
  ![v1658.toNat, 256]
def k0_off36 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1716 : Index := Scalar.indexCast v443
  let c384_529 : Index := 384#32
  ![v1716.toNat, 384]
def k0_off37 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1774 : Index := Scalar.indexCast v443
  let c512_546 : Index := 512#32
  ![v1774.toNat, 512]
def k0_off38 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1832 : Index := Scalar.indexCast v443
  let c640_562 : Index := 640#32
  ![v1832.toNat, 640]
def k0_off39 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1890 : Index := Scalar.indexCast v443
  let c768_578 : Index := 768#32
  ![v1890.toNat, 768]
def k0_off40 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v1948 : Index := Scalar.indexCast v443
  let c896_594 : Index := 896#32
  ![v1948.toNat, 896]
def k0_off41 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2006 : Index := Scalar.indexCast v443
  let c1024_611 : Index := 1024#32
  ![v2006.toNat, 1024]
def k0_off42 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2064 : Index := Scalar.indexCast v443
  let c1152_627 : Index := 1152#32
  ![v2064.toNat, 1152]
def k0_off43 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2122 : Index := Scalar.indexCast v443
  let c1280_643 : Index := 1280#32
  ![v2122.toNat, 1280]
def k0_off44 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2180 : Index := Scalar.indexCast v443
  let c1408_659 : Index := 1408#32
  ![v2180.toNat, 1408]
def k0_off45 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2238 : Index := Scalar.indexCast v443
  let c1536_676 : Index := 1536#32
  ![v2238.toNat, 1536]
def k0_off46 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2296 : Index := Scalar.indexCast v443
  let c1664_692 : Index := 1664#32
  ![v2296.toNat, 1664]
def k0_off47 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2354 : Index := Scalar.indexCast v443
  let c1792_708 : Index := 1792#32
  ![v2354.toNat, 1792]
def k0_off48 (k0_t1 : Fin k0_t1_loop.trips) (c0_i32_169 : BitVec 32) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v443 : BitVec 32 := Scalar.addi v424 c0_i32_169
  let v2412 : Index := Scalar.indexCast v443
  let c1920_724 : Index := 1920#32
  ![v2412.toNat, 1920]
def k0_off49 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v423 : BitVec 32 := Scalar.muli arg9 c32_i32
  let v424 : BitVec 32 := v423
  let v4574 : Index := Scalar.indexCast v424
  let c0_1369 : Index := 0#32
  ![v4574.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x11008 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 2 → Memref sig .tc .vmem S512x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S8x2048x4096 : Shape := ⟨3, ![8, 2048, 4096]⟩
abbrev S128x4 : Shape := ⟨2, ![128, 4]⟩
abbrev S128x15 : Shape := ⟨2, ![128, 15]⟩
abbrev S128x16x11008 : Shape := ⟨3, ![128, 16, 11008]⟩
abbrev S128 : Shape := ⟨1, ![128]⟩
abbrev S_ : Shape := ⟨0, ![]⟩
abbrev S128x4x1 : Shape := ⟨3, ![128, 4, 1]⟩
abbrev S8x2048x128x4 : Shape := ⟨4, ![8, 2048, 128, 4]⟩
abbrev S8x2048x128 : Shape := ⟨3, ![8, 2048, 128]⟩
abbrev S128x1 : Shape := ⟨2, ![128, 1]⟩
abbrev S8x2048x128x1 : Shape := ⟨4, ![8, 2048, 128, 1]⟩
abbrev S8x2048x64x2 : Shape := ⟨4, ![8, 2048, 64, 2]⟩
abbrev S8x2048x64x1 : Shape := ⟨4, ![8, 2048, 64, 1]⟩
abbrev S8x2048x64 : Shape := ⟨3, ![8, 2048, 64]⟩
abbrev S16 : Shape := ⟨1, ![16]⟩
abbrev S1x1x1x16 : Shape := ⟨4, ![1, 1, 1, 16]⟩
abbrev S8x2048x128x16 : Shape := ⟨4, ![8, 2048, 128, 16]⟩
abbrev S8x2048x2048 : Shape := ⟨3, ![8, 2048, 2048]⟩
abbrev S128x1x1 : Shape := ⟨3, ![128, 1, 1]⟩
abbrev S2048x11008 : Shape := ⟨2, ![2048, 11008]⟩
abbrev S8x2048x11008 : Shape := ⟨3, ![8, 2048, 11008]⟩
abbrev S16384x11008 : Shape := ⟨2, ![16384, 11008]⟩
abbrev S16384x64 : Shape := ⟨2, ![16384, 64]⟩

abbrev nBuf : Space → Nat
  | .hbm => 176
  | .vmem => 0
  | .smem => 0
  | _ => 0

abbrev hbmTy0_0 (i : Nat) : BufTy := match i % 128 with
  | 0 => ⟨S8x2048x4096, .bf16⟩
  | 1 => ⟨S128x4, .i32⟩
  | 2 => ⟨S128x15, .bf16⟩
  | 3 => ⟨S128x16x11008, .i8⟩
  | 4 => ⟨S128, .f32⟩
  | 5 => ⟨S_, .i32⟩
  | 6 => ⟨S128x4, .i32⟩
  | 7 => ⟨S128x4, .i1⟩
  | 8 => ⟨S_, .i32⟩
  | 9 => ⟨S128x4, .i32⟩
  | 10 => ⟨S128x4, .i32⟩
  | 11 => ⟨S128x4, .i32⟩
  | 12 => ⟨S128x4x1, .i32⟩
  | 13 => ⟨S8x2048x128x4, .bf16⟩
  | 14 => ⟨S_, .i32⟩
  | 15 => ⟨S8x2048x128, .i32⟩
  | 16 => ⟨S128x1, .bf16⟩
  | 17 => ⟨S128, .bf16⟩
  | 18 => ⟨S8x2048x128, .bf16⟩
  | 19 => ⟨S8x2048x128x1, .bf16⟩
  | 20 => ⟨S8x2048x128, .bf16⟩
  | 21 => ⟨S8x2048x128, .i1⟩
  | 22 => ⟨S_, .i32⟩
  | 23 => ⟨S8x2048x128, .i32⟩
  | 24 => ⟨S8x2048x128, .i32⟩
  | 25 => ⟨S8x2048x128, .i32⟩
  | 26 => ⟨S8x2048x128, .i32⟩
  | 27 => ⟨S128x1, .bf16⟩
  | 28 => ⟨S128, .bf16⟩
  | 29 => ⟨S8x2048x128, .bf16⟩
  | 30 => ⟨S_, .i32⟩
  | 31 => ⟨S8x2048x128, .i32⟩
  | 32 => ⟨S8x2048x128, .i1⟩
  | 33 => ⟨S128x1, .bf16⟩
  | 34 => ⟨S128, .bf16⟩
  | 35 => ⟨S8x2048x128, .bf16⟩
  | 36 => ⟨S8x2048x128, .bf16⟩
  | 37 => ⟨S8x2048x128x1, .bf16⟩
  | 38 => ⟨S8x2048x128, .bf16⟩
  | 39 => ⟨S8x2048x128, .i1⟩
  | 40 => ⟨S_, .i32⟩
  | 41 => ⟨S8x2048x128, .i32⟩
  | 42 => ⟨S8x2048x128, .i32⟩
  | 43 => ⟨S8x2048x128, .i32⟩
  | 44 => ⟨S8x2048x128, .i32⟩
  | 45 => ⟨S128x1, .bf16⟩
  | 46 => ⟨S128, .bf16⟩
  | 47 => ⟨S8x2048x128, .bf16⟩
  | 48 => ⟨S_, .i32⟩
  | 49 => ⟨S8x2048x128, .i32⟩
  | 50 => ⟨S8x2048x128, .i1⟩
  | 51 => ⟨S128x1, .bf16⟩
  | 52 => ⟨S128, .bf16⟩
  | 53 => ⟨S8x2048x128, .bf16⟩
  | 54 => ⟨S8x2048x128, .bf16⟩
  | 55 => ⟨S_, .i32⟩
  | 56 => ⟨S8x2048x128, .i32⟩
  | 57 => ⟨S8x2048x128, .i1⟩
  | 58 => ⟨S128x1, .bf16⟩
  | 59 => ⟨S128, .bf16⟩
  | 60 => ⟨S8x2048x128, .bf16⟩
  | 61 => ⟨S8x2048x128, .bf16⟩
  | 62 => ⟨S_, .i32⟩
  | 63 => ⟨S8x2048x128, .i32⟩
  | 64 => ⟨S8x2048x128, .i1⟩
  | 65 => ⟨S128x1, .bf16⟩
  | 66 => ⟨S128, .bf16⟩
  | 67 => ⟨S8x2048x128, .bf16⟩
  | 68 => ⟨S8x2048x128, .bf16⟩
  | 69 => ⟨S8x2048x128x1, .bf16⟩
  | 70 => ⟨S8x2048x128, .bf16⟩
  | 71 => ⟨S8x2048x128, .i1⟩
  | 72 => ⟨S_, .i32⟩
  | 73 => ⟨S8x2048x128, .i32⟩
  | 74 => ⟨S8x2048x128, .i32⟩
  | 75 => ⟨S8x2048x128, .i32⟩
  | 76 => ⟨S8x2048x128, .i32⟩
  | 77 => ⟨S128x1, .bf16⟩
  | 78 => ⟨S128, .bf16⟩
  | 79 => ⟨S8x2048x128, .bf16⟩
  | 80 => ⟨S_, .i32⟩
  | 81 => ⟨S8x2048x128, .i32⟩
  | 82 => ⟨S8x2048x128, .i1⟩
  | 83 => ⟨S128x1, .bf16⟩
  | 84 => ⟨S128, .bf16⟩
  | 85 => ⟨S8x2048x128, .bf16⟩
  | 86 => ⟨S8x2048x128, .bf16⟩
  | 87 => ⟨S_, .i32⟩
  | 88 => ⟨S8x2048x128, .i32⟩
  | 89 => ⟨S8x2048x128, .i1⟩
  | 90 => ⟨S128x1, .bf16⟩
  | 91 => ⟨S128, .bf16⟩
  | 92 => ⟨S8x2048x128, .bf16⟩
  | 93 => ⟨S8x2048x128, .bf16⟩
  | 94 => ⟨S_, .i32⟩
  | 95 => ⟨S8x2048x128, .i32⟩
  | 96 => ⟨S8x2048x128, .i1⟩
  | 97 => ⟨S128x1, .bf16⟩
  | 98 => ⟨S128, .bf16⟩
  | 99 => ⟨S8x2048x128, .bf16⟩
  | 100 => ⟨S8x2048x128, .bf16⟩
  | 101 => ⟨S_, .i32⟩
  | 102 => ⟨S8x2048x128, .i32⟩
  | 103 => ⟨S8x2048x128, .i1⟩
  | 104 => ⟨S128x1, .bf16⟩
  | 105 => ⟨S128, .bf16⟩
  | 106 => ⟨S8x2048x128, .bf16⟩
  | 107 => ⟨S8x2048x128, .bf16⟩
  | 108 => ⟨S_, .i32⟩
  | 109 => ⟨S8x2048x128, .i32⟩
  | 110 => ⟨S8x2048x128, .i1⟩
  | 111 => ⟨S128x1, .bf16⟩
  | 112 => ⟨S128, .bf16⟩
  | 113 => ⟨S8x2048x128, .bf16⟩
  | 114 => ⟨S8x2048x128, .bf16⟩
  | 115 => ⟨S_, .i32⟩
  | 116 => ⟨S8x2048x128, .i32⟩
  | 117 => ⟨S8x2048x128, .i1⟩
  | 118 => ⟨S128x1, .bf16⟩
  | 119 => ⟨S128, .bf16⟩
  | 120 => ⟨S8x2048x128, .bf16⟩
  | 121 => ⟨S8x2048x128, .bf16⟩
  | 122 => ⟨S_, .i32⟩
  | 123 => ⟨S8x2048x128, .i32⟩
  | 124 => ⟨S8x2048x128, .i1⟩
  | 125 => ⟨S128x1, .bf16⟩
  | 126 => ⟨S128, .bf16⟩
  | 127 => ⟨S8x2048x128, .bf16⟩
  | _ => ⟨S8x2048x4096, .bf16⟩

abbrev hbmTy0_1 (i : Nat) : BufTy := match i % 128 with
  | 0 => ⟨S8x2048x128, .bf16⟩
  | 1 => ⟨S8x2048x128x1, .bf16⟩
  | 2 => ⟨S8x2048x128, .bf16⟩
  | 3 => ⟨S8x2048x128, .i1⟩
  | 4 => ⟨S_, .i32⟩
  | 5 => ⟨S8x2048x128, .i32⟩
  | 6 => ⟨S8x2048x128, .i32⟩
  | 7 => ⟨S8x2048x128, .i32⟩
  | 8 => ⟨S8x2048x128, .i32⟩
  | 9 => ⟨S8x2048x64x2, .i32⟩
  | 10 => ⟨S8x2048x64x1, .i32⟩
  | 11 => ⟨S8x2048x64, .i32⟩
  | 12 => ⟨S8x2048x64x1, .i32⟩
  | 13 => ⟨S8x2048x64, .i32⟩
  | 14 => ⟨S_, .i32⟩
  | 15 => ⟨S8x2048x64, .i32⟩
  | 16 => ⟨S8x2048x64, .i32⟩
  | 17 => ⟨S8x2048x64, .i32⟩
  | 18 => ⟨S_, .i32⟩
  | 19 => ⟨S8x2048x64, .i32⟩
  | 20 => ⟨S8x2048x64, .i32⟩
  | 21 => ⟨S_, .i32⟩
  | 22 => ⟨S8x2048x64, .i32⟩
  | 23 => ⟨S8x2048x64, .i32⟩
  | 24 => ⟨S8x2048x64x1, .i32⟩
  | 25 => ⟨S8x2048x64x1, .i32⟩
  | 26 => ⟨S8x2048x64x2, .i32⟩
  | 27 => ⟨S8x2048x128, .i32⟩
  | 28 => ⟨S16, .i32⟩
  | 29 => ⟨S8x2048x128x1, .i32⟩
  | 30 => ⟨S1x1x1x16, .i32⟩
  | 31 => ⟨S8x2048x128x16, .i32⟩
  | 32 => ⟨S8x2048x128x16, .i32⟩
  | 33 => ⟨S8x2048x128x16, .i1⟩
  | 34 => ⟨S8x2048x128x16, .bf16⟩
  | 35 => ⟨S8x2048x2048, .bf16⟩
  | 36 => ⟨S128x16x11008, .i32⟩
  | 37 => ⟨S128x16x11008, .bf16⟩
  | 38 => ⟨S128, .bf16⟩
  | 39 => ⟨S128x1x1, .bf16⟩
  | 40 => ⟨S128x16x11008, .bf16⟩
  | 41 => ⟨S128x16x11008, .bf16⟩
  | 42 => ⟨S2048x11008, .bf16⟩
  | 43 => ⟨S8x2048x11008, .f32⟩
  | 44 => ⟨S8x2048x11008, .bf16⟩
  | 45 => ⟨S16384x11008, .bf16⟩
  | 46 => ⟨S8x2048x64, .i8⟩
  | 47 => ⟨S16384x64, .i8⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call2_v0 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call3_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call4_v0 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call5_v0 : Ref sig .tc := ⟨.hbm, 92, rfl⟩
abbrev main_v70 : Ref sig .tc := ⟨.hbm, 93, rfl⟩
abbrev main_c_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call6_v0 : Ref sig .tc := ⟨.hbm, 99, rfl⟩
abbrev main_v75 : Ref sig .tc := ⟨.hbm, 100, rfl⟩
abbrev main_c_12 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call7_v0 : Ref sig .tc := ⟨.hbm, 106, rfl⟩
abbrev main_v80 : Ref sig .tc := ⟨.hbm, 107, rfl⟩
abbrev main_c_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call8_v0 : Ref sig .tc := ⟨.hbm, 113, rfl⟩
abbrev main_v85 : Ref sig .tc := ⟨.hbm, 114, rfl⟩
abbrev main_c_14 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call9_v0 : Ref sig .tc := ⟨.hbm, 120, rfl⟩
abbrev main_v90 : Ref sig .tc := ⟨.hbm, 121, rfl⟩
abbrev main_c_15 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call10_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_16 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_17 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_18 : Ref sig .tc := ⟨.hbm, 146, rfl⟩
abbrev main_v111 : Ref sig .tc := ⟨.hbm, 147, rfl⟩
abbrev main_v112 : Ref sig .tc := ⟨.hbm, 148, rfl⟩
abbrev main_c_19 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩

abbrev nD : Nat := 1
abbrev τ : Topo := Topo.v7x

variable {F : FTy → Type} [FloatOps F]
-- ==== Proof.Hash.lean ====
module

public import proofs.«01_k».proof.Proof.Gen.KernelIdeal.Loops

/-! What one trip of the hashing loop computes on sixteen rows, written as a short chain of vector
    operations, and the proof that the run's own terms are those chains. -/

@[expose] public section

set_option maxRecDepth 8192

noncomputable section

namespace Cert.KernelIdeal.Hash

open Idealize Idealize.ShloMosaic Idealize.ShloMosaic.TcCoe Cert.KernelIdeal Cert.KernelIdeal.Gen

variable {F : FTy → Type} [FloatOps F]

/-- The lane numbers `0 … 127` of a block of eight rows. -/
def lane : IVec S8x128 32 := iota .tc S8x128 32 [1] iota_S8x128_d1_w32

/-- A lane index with negative entries counted from the end. -/
def wrap (idx : IVec S8x128 32) : IVec S8x128 32 :=
  shapeCast S8x128 (shapeCast S8x128x1
    (select (cmpi .slt idx (broadcast S8x128 0#32)) (addi idx (broadcast S8x128 128#32)) idx)
    shapeCasts_S8x128_S8x128x1) shapeCasts_S8x128x1_S8x128

/-- The lanes of `x` taken at `idx`, row by row. -/
def gath (idx : IVec S8x128 32) (x : FVec F S8x128 .bf16) : FVec F S8x128 .bf16 :=
  truncf .bf16 (dynamicGather 1 (extf .f32 x) (wrap idx))

/-- The rows of parity `p` of a block of sixteen rows. -/
def half (p : Fin 2) (v : Vec F S16x128 .bf16) : FVec F S8x128 .bf16 :=
  rowsOfParity p S8x128 (shapeCast S16x128 v shapeCasts_S16x128_S16x128) bitcasts_S16x128_w16_S8x128_w32

/-- The lanes whose number has the bit `b`. -/
def bit (b : BitVec 32) : IVec S8x128 1 :=
  cmpi .ne (andi lane (broadcast S8x128 b)) (broadcast S8x128 0#32)

/-- One of eight gathers a lane, picked by bits 2, 3 and 4 of the lane's number. -/
def merged (p : Fin 2) (i : Vec F S1x8x128 .i32) (v0 v1 v2 v3 v4 v5 v6 v7 : Vec F S16x128 .bf16) : FVec F S8x128 .bf16 :=
  have idx := shapeCast S8x128 i shapeCasts_S1x8x128_S8x128
  select (bit 16#32)
    (select (bit 8#32)
      (select (bit 4#32) (gath idx (half p v7)) (gath idx (half p v6)))
      (select (bit 4#32) (gath idx (half p v5)) (gath idx (half p v4))))
    (select (bit 8#32)
      (select (bit 4#32) (gath idx (half p v3)) (gath idx (half p v2)))
      (select (bit 4#32) (gath idx (half p v1)) (gath idx (half p v0))))

/-- The floor of `v / c`. -/
def floorDiv (v : IVec S8x128 32) (c : BitVec 32) : IVec S8x128 32 :=
  select (andi
      (cmpi .ne (subi (extui 32 (cmpi .sgt v (broadcast S8x128 0#32)) natLt_1_32) (extui 32 (cmpi .slt v (broadcast S8x128 0#32)) natLt_1_32))
        (broadcast S8x128 (Scalar.subi (Scalar.extui (Scalar.cmpi .sgt c 0#32)) (Scalar.extui (Scalar.cmpi .slt c 0#32)))))
      (cmpi .ne (remsi v (broadcast S8x128 c)) (broadcast S8x128 0#32)))
    (subi (divsi v (broadcast S8x128 c)) (broadcast S8x128 1#32))
    (divsi v (broadcast S8x128 c))

/-- One of four halves a lane, picked by the lane's block of thirty-two. -/
def byBlock (a0 a1 a2 a3 : FVec F S8x128 .bf16) : FVec F S8x128 .bf16 :=
  select (cmpi .eq (floorDiv lane 32#32) (broadcast S8x128 3#32)) a3
    (select (cmpi .eq (floorDiv lane 32#32) (broadcast S8x128 2#32)) a2
      (select (cmpi .eq (floorDiv lane 32#32) (broadcast S8x128 1#32)) a1 a0))

/-- The lanes turned by `n`. -/
def turn (n : BitVec 32) (a : FVec F S8x128 .bf16) : FVec F S8x128 .bf16 :=
  dynamicRotate 1 n none a rotates_S8x128_d1

/-- Two halves as sixteen rows. -/
def rows (lo hi : FVec F S8x128 .bf16) : FVec F S16x128 .bf16 :=
  interleaveRows S16x128 lo hi bitcasts_S16x128_w16_S8x128_w32

/-- The tree of comparisons: from the four split values and the fifteen thresholds, the leaf. -/
def tree (x0 x1 x2 x3 : FVec F S16x128 .bf16) (t : Fin 15 → FVec F S16x128 .bf16) : FVec F S16x128 .bf16 :=
  have one : FVec F S16x128 .bf16 := broadcast S16x128 (Scalar.ofBits .bf16 0x3F80#16)
  have zero : FVec F S16x128 .bf16 := broadcast S16x128 (Scalar.ofBits .bf16 0x0000#16)
  have b0 := cmpf .ogt x0 (t 0)
  have c0 := addf zero (select b0 (mulf one (broadcast S16x128 (Scalar.ofBits .bf16 0x4100#16))) zero)
  have b1 := cmpf .ogt x1 (select b0 (t 2) (t 1))
  have c1 := addf c0 (select b1 (mulf one (broadcast S16x128 (Scalar.ofBits .bf16 0x4080#16))) zero)
  have b2 := cmpf .ogt x2 (select b1 (select b0 (t 6) (t 4)) (select b0 (t 5) (t 3)))
  have c2 := addf c1 (select b2 (mulf one (broadcast S16x128 (Scalar.ofBits .bf16 0x4000#16))) zero)
  have b3 := cmpf .ogt x3
    (select b2 (select b1 (select b0 (t 14) (t 10)) (select b0 (t 12) (t 8)))
      (select b1 (select b0 (t 13) (t 9)) (select b0 (t 11) (t 7))))
  addf c2 (select b3 (mulf one (broadcast S16x128 (Scalar.ofBits .bf16 0x3F80#16))) zero)

/-- The four split values a lane, from the four merged gathers' even rows `a` and odd rows `b`. -/
def split0 (a0 a1 a2 a3 b0 b1 b2 b3 : FVec F S8x128 .bf16) : FVec F S16x128 .bf16 :=
  rows (byBlock a0 a1 a2 a3) (byBlock b0 b1 b2 b3)
/-- See `split0`. -/
def split1 (a0 a1 a2 a3 b0 b1 b2 b3 : FVec F S8x128 .bf16) : FVec F S16x128 .bf16 :=
  rows (turn 96#32 (byBlock a3 a0 a1 a2)) (turn 96#32 (byBlock b3 b0 b1 b2))
/-- See `split0`. -/
def split2 (a0 a1 a2 a3 b0 b1 b2 b3 : FVec F S8x128 .bf16) : FVec F S16x128 .bf16 :=
  rows (turn 64#32 (byBlock a2 a3 a0 a1)) (turn 64#32 (byBlock b2 b3 b0 b1))
/-- See `split0`. -/
def split3 (a0 a1 a2 a3 b0 b1 b2 b3 : FVec F S8x128 .bf16) : FVec F S16x128 .bf16 :=
  rows (turn 32#32 (byBlock a1 a2 a3 a0)) (turn 32#32 (byBlock b1 b2 b3 b0))

/-- The leaves of sixteen rows, from the merged gathers. -/
def leaves (a0 a1 a2 a3 b0 b1 b2 b3 : FVec F S8x128 .bf16) (t : Fin 15 → Vec F S1x16x128 .bf16) : FVec F S16x128 .bf16 :=
  tree (split0 a0 a1 a2 a3 b0 b1 b2 b3) (split1 a0 a1 a2 a3 b0 b1 b2 b3)
    (split2 a0 a1 a2 a3 b0 b1 b2 b3) (split3 a0 a1 a2 a3 b0 b1 b2 b3)
    (fun n => shapeCast S16x128 (t n) shapeCasts_S1x16x128_S16x128)

/-- The leaves of sixteen rows. -/
def code (i : Fin 4 → Vec F S1x8x128 .i32) (v : Fin 32 → Vec F S16x128 .bf16)
    (t : Fin 15 → Vec F S1x16x128 .bf16) : FVec F S16x128 .bf16 :=
  leaves
    (merged 0 (i 0) (v 0) (v 1) (v 2) (v 3) (v 4) (v 5) (v 6) (v 7))
    (merged 0 (i 1) (v 8) (v 9) (v 10) (v 11) (v 12) (v 13) (v 14) (v 15))
    (merged 0 (i 2) (v 16) (v 17) (v 18) (v 19) (v 20) (v 21) (v 22) (v 23))
    (merged 0 (i 3) (v 24) (v 25) (v 26) (v 27) (v 28) (v 29) (v 30) (v 31))
    (merged 1 (i 0) (v 0) (v 1) (v 2) (v 3) (v 4) (v 5) (v 6) (v 7))
    (merged 1 (i 1) (v 8) (v 9) (v 10) (v 11) (v 12) (v 13) (v 14) (v 15))
    (merged 1 (i 2) (v 16) (v 17) (v 18) (v 19) (v 20) (v 21) (v 22) (v 23))
    (merged 1 (i 3) (v 24) (v 25) (v 26) (v 27) (v 28) (v 29) (v 30) (v 31))
    t

/-- The lane's number modulo sixteen, as a bf16. -/
def leafNo : FVec F S16x128 .bf16 := k0_pay2

/-- The even rows of a code, or the odd ones. -/
def ch (p : Fin 2) (cw : FVec F S16x128 .bf16) : FVec F S8x128 .bf16 :=
  rowsOfParity p S8x128 cw bitcasts_S16x128_w16_S8x128_w32

/-- The codes taken at lane indices `idx`, from their even rows `lo` and their odd rows `hi`. -/
def taken (idx : IVec S8x128 32) (lo hi : FVec F S8x128 .bf16) : FVec F S16x128 .bf16 :=
  rows (gath idx lo) (gath idx hi)

/-- Sixteen rows of the one-hot: lane `l` of slab `j` asks whether codebook `8 j + l / 16` chose leaf
    `l % 16`. -/
def slab (n : BitVec 32) (lo hi : FVec F S8x128 .bf16) : FVec F S16x128 .bf16 :=
  shapeCast S16x128
    (select (cmpf .oeq (taken (addi (broadcast S8x128 n) (floorDiv lane 16#32)) lo hi) leafNo)
      (broadcast S16x128 (Scalar.ofBits .bf16 0x3F80#16)) (broadcast S16x128 (Scalar.ofBits .bf16 0x0000#16)))
    shapeCasts_S16x128_S16x128

/-- The remainder of `v` by `128`, of the sign of `128`. -/
def mod128 (v : IVec S8x128 32) : IVec S8x128 32 :=
  have d : BitVec 32 := Scalar.select (Scalar.cmpi .eq 128#32 0#32) 1#32 128#32
  have r := remsi v (broadcast S8x128 d)
  select (andi (xori (cmpi .slt r (broadcast S8x128 0#32))
      (broadcastTo S8x128 (broadcast S8x128 (Scalar.cmpi .slt d 0#32)) broadcasts_S8x128_S8x128))
      (cmpi .ne r (broadcast S8x128 0#32)))
    (addi r (broadcast S8x128 d)) r

/-- Sixteen rows of packed codes: lane `l` holds code `2 l` and sixteen times code `2 l + 1`. -/
def packed (lo hi : FVec F S8x128 .bf16) : IVec S16x128 32 :=
  fptosi 32 (extf .f32 (addf (taken (mod128 (muli (broadcast S8x128 2#32) lane)) lo hi)
    (mulf (broadcast S16x128 (Scalar.ofBits .bf16 0x4180#16))
      (taken (mod128 (addi (muli (broadcast S8x128 2#32) lane) (broadcast S8x128 1#32))) lo hi))) bitsLt_bf16_f32)

/-- Thirty-two rows of packed codes, as stored. -/
def stored (p0 p1 : IVec S16x128 32) : IVec S32x64 8 :=
  extractStridedSlice S32x64 ![0, 0]
    (trunci 8 (concatenate S32x128 0 [⟨S16x128, p0⟩, ⟨S16x128, p1⟩] concatenates_S16x128_S16x128_S32x128_d0) natLt_8_32)
    slices_S32x128_o0_0_S32x64

end Cert.KernelIdeal.Hash
-- ==== Proof.Offsets.lean ====
module

public import proofs.«01_k».proof.Proof.Hash

/-! Where one trip of the hashing loop reads and stores, in closed form. -/

@[expose] public section

set_option maxRecDepth 8192

noncomputable section

namespace Cert.KernelIdeal.Hash

open Idealize Idealize.ShloMosaic Idealize.ShloMosaic.TcCoe Cert.KernelIdeal Cert.KernelIdeal.Gen

theorem trips_eq : k0_t1_loop.trips = 16 := by decide

theorem off1 (k : Fin k0_t1_loop.trips) (u : Fin 2) : k0_off1 k (BitVec.ofNat 32 (16 * u.val)) = ![32 * k.val + 16 * u.val, 0] := by
  revert k u; decide
theorem off2 (k : Fin k0_t1_loop.trips) (u : Fin 2) : k0_off2 k (BitVec.ofNat 32 (16 * u.val)) = ![32 * k.val + 16 * u.val, 128] := by
  revert k u; decide
theorem off3 (k : Fin k0_t1_loop.trips) (u : Fin 2) : k0_off3 k (BitVec.ofNat 32 (16 * u.val)) = ![32 * k.val + 16 * u.val, 256] := by
  revert k u; decide
theorem off4 (k : Fin k0_t1_loop.trips) (u : Fin 2) : k0_off4 k (BitVec.ofNat 32 (16 * u.val)) = ![32 * k.val + 16 * u.val, 384] := by
  revert k u; decide
theorem off5 (k : Fin k0_t1_loop.trips) (u : Fin 2) : k0_off5 k (BitVec.ofNat 32 (16 * u.val)) = ![32 * k.val + 16 * u.val, 512] := by
  revert k u; decide
theorem off6 (k : Fin k0_t1_loop.trips) (u : Fin 2) : k0_off6 k (BitVec.ofNat 32 (16 * u.val)) = ![32 * k.val + 16 * u.val, 640] := by
  revert k u; decide
theorem off7 (k : Fin k0_t1_loop.trips) (u : Fin 2) : k0_off7 k (BitVec.ofNat 32 (16 * u.val)) = ![32 * k.val + 16 * u.val, 768] := by
  revert k u; decide
theorem off8 (k : Fin k0_t1_loop.trips) (u : Fin 2) : k0_off8 k (BitVec.ofNat 32 (16 * u.val)) = ![32 * k.val + 16 * u.val, 896] := by
  revert k u; decide
theorem off9 (k : Fin k0_t1_loop.trips) (u : Fin 2) : k0_off9 k (BitVec.ofNat 32 (16 * u.val)) = ![32 * k.val + 16 * u.val, 1024] := by
  revert k u; decide
theorem off10 (k : Fin k0_t1_loop.trips) (u : Fin 2) : k0_off10 k (BitVec.ofNat 32 (16 * u.val)) = ![32 * k.val + 16 * u.val, 1152] := by
  revert k u; decide
theorem off11 (k : Fin k0_t1_loop.trips) (u : Fin 2) : k0_off11 k (BitVec.ofNat 32 (16 * u.val)) = ![32 * k.val + 16 * u.val, 1280] := by
  revert k u; decide
theorem off12 (k : Fin k0_t1_loop.trips) (u : Fin 2) : k0_off12 k (BitVec.ofNat 32 (16 * u.val)) = ![32 * k.val + 16 * u.val, 1408] := by
  revert k u; decide
theorem off13 (k : Fin k0_t1_loop.trips) (u : Fin 2) : k0_off13 k (BitVec.ofNat 32 (16 * u.val)) = ![32 * k.val + 16 * u.val, 1536] := by
  revert k u; decide
theorem off14 (k : Fin k0_t1_loop.trips) (u : Fin 2) : k0_off14 k (BitVec.ofNat 32 (16 * u.val)) = ![32 * k.val + 16 * u.val, 1664] := by
  revert k u; decide
theorem off15 (k : Fin k0_t1_loop.trips) (u : Fin 2) : k0_off15 k (BitVec.ofNat 32 (16 * u.val)) = ![32 * k.val + 16 * u.val, 1792] := by
  revert k u; decide
theorem off16 (k : Fin k0_t1_loop.trips) (u : Fin 2) : k0_off16 k (BitVec.ofNat 32 (16 * u.val)) = ![32 * k.val + 16 * u.val, 1920] := by
  revert k u; decide
theorem off17 (k : Fin k0_t1_loop.trips) (u : Fin 2) : k0_off17 k (BitVec.ofNat 32 (16 * u.val)) = ![32 * k.val + 16 * u.val, 2048] := by
  revert k u; decide
theorem off18 (k : Fin k0_t1_loop.trips) (u : Fin 2) : k0_off18 k (BitVec.ofNat 32 (16 * u.val)) = ![32 * k.val + 16 * u.val, 2176] := by
  revert k u; decide
theorem off19 (k : Fin k0_t1_loop.trips) (u : Fin 2) : k0_off19 k (BitVec.ofNat 32 (16 * u.val)) = ![32 * k.val + 16 * u.val, 2304] := by
  revert k u; decide
theorem off20 (k : Fin k0_t1_loop.trips) (u : Fin 2) : k0_off20 k (BitVec.ofNat 32 (16 * u.val)) = ![32 * k.val + 16 * u.val, 2432] := by
  revert k u; decide
theorem off21 (k : Fin k0_t1_loop.trips) (u : Fin 2) : k0_off21 k (BitVec.ofNat 32 (16 * u.val)) = ![32 * k.val + 16 * u.val, 2560] := by
  revert k u; decide
theorem off22 (k : Fin k0_t1_loop.trips) (u : Fin 2) : k0_off22 k (BitVec.ofNat 32 (16 * u.val)) = ![32 * k.val + 16 * u.val, 2688] := by
  revert k u; decide
theorem off23 (k : Fin k0_t1_loop.trips) (u : Fin 2) : k0_off23 k (BitVec.ofNat 32 (16 * u.val)) = ![32 * k.val + 16 * u.val, 2816] := by
  revert k u; decide
theorem off24 (k : Fin k0_t1_loop.trips) (u : Fin 2) : k0_off24 k (BitVec.ofNat 32 (16 * u.val)) = ![32 * k.val + 16 * u.val, 2944] := by
  revert k u; decide
theorem off25 (k : Fin k0_t1_loop.trips) (u : Fin 2) : k0_off25 k (BitVec.ofNat 32 (16 * u.val)) = ![32 * k.val + 16 * u.val, 3072] := by
  revert k u; decide
theorem off26 (k : Fin k0_t1_loop.trips) (u : Fin 2) : k0_off26 k (BitVec.ofNat 32 (16 * u.val)) = ![32 * k.val + 16 * u.val, 3200] := by
  revert k u; decide
theorem off27 (k : Fin k0_t1_loop.trips) (u : Fin 2) : k0_off27 k (BitVec.ofNat 32 (16 * u.val)) = ![32 * k.val + 16 * u.val, 3328] := by
  revert k u; decide
theorem off28 (k : Fin k0_t1_loop.trips) (u : Fin 2) : k0_off28 k (BitVec.ofNat 32 (16 * u.val)) = ![32 * k.val + 16 * u.val, 3456] := by
  revert k u; decide
theorem off29 (k : Fin k0_t1_loop.trips) (u : Fin 2) : k0_off29 k (BitVec.ofNat 32 (16 * u.val)) = ![32 * k.val + 16 * u.val, 3584] := by
  revert k u; decide
theorem off30 (k : Fin k0_t1_loop.trips) (u : Fin 2) : k0_off30 k (BitVec.ofNat 32 (16 * u.val)) = ![32 * k.val + 16 * u.val, 3712] := by
  revert k u; decide
theorem off31 (k : Fin k0_t1_loop.trips) (u : Fin 2) : k0_off31 k (BitVec.ofNat 32 (16 * u.val)) = ![32 * k.val + 16 * u.val, 3840] := by
  revert k u; decide
theorem off32 (k : Fin k0_t1_loop.trips) (u : Fin 2) : k0_off32 k (BitVec.ofNat 32 (16 * u.val)) = ![32 * k.val + 16 * u.val, 3968] := by
  revert k u; decide
theorem off33 (k : Fin k0_t1_loop.trips) (u : Fin 2) : k0_off33 k (BitVec.ofNat 32 (16 * u.val)) = ![32 * k.val + 16 * u.val, 0] := by
  revert k u; decide
theorem off34 (k : Fin k0_t1_loop.trips) (u : Fin 2) : k0_off34 k (BitVec.ofNat 32 (16 * u.val)) = ![32 * k.val + 16 * u.val, 128] := by
  revert k u; decide
theorem off35 (k : Fin k0_t1_loop.trips) (u : Fin 2) : k0_off35 k (BitVec.ofNat 32 (16 * u.val)) = ![32 * k.val + 16 * u.val, 256] := by
  revert k u; decide
theorem off36 (k : Fin k0_t1_loop.trips) (u : Fin 2) : k0_off36 k (BitVec.ofNat 32 (16 * u.val)) = ![32 * k.val + 16 * u.val, 384] := by
  revert k u; decide
theorem off37 (k : Fin k0_t1_loop.trips) (u : Fin 2) : k0_off37 k (BitVec.ofNat 32 (16 * u.val)) = ![32 * k.val + 16 * u.val, 512] := by
  revert k u; decide
theorem off38 (k : Fin k0_t1_loop.trips) (u : Fin 2) : k0_off38 k (BitVec.ofNat 32 (16 * u.val)) = ![32 * k.val + 16 * u.val, 640] := by
  revert k u; decide
theorem off39 (k : Fin k0_t1_loop.trips) (u : Fin 2) : k0_off39 k (BitVec.ofNat 32 (16 * u.val)) = ![32 * k.val + 16 * u.val, 768] := by
  revert k u; decide
theorem off40 (k : Fin k0_t1_loop.trips) (u : Fin 2) : k0_off40 k (BitVec.ofNat 32 (16 * u.val)) = ![32 * k.val + 16 * u.val, 896] := by
  revert k u; decide
theorem off41 (k : Fin k0_t1_loop.trips) (u : Fin 2) : k0_off41 k (BitVec.ofNat 32 (16 * u.val)) = ![32 * k.val + 16 * u.val, 1024] := by
  revert k u; decide
theorem off42 (k : Fin k0_t1_loop.trips) (u : Fin 2) : k0_off42 k (BitVec.ofNat 32 (16 * u.val)) = ![32 * k.val + 16 * u.val, 1152] := by
  revert k u; decide
theorem off43 (k : Fin k0_t1_loop.trips) (u : Fin 2) : k0_off43 k (BitVec.ofNat 32 (16 * u.val)) = ![32 * k.val + 16 * u.val, 1280] := by
  revert k u; decide
theorem off44 (k : Fin k0_t1_loop.trips) (u : Fin 2) : k0_off44 k (BitVec.ofNat 32 (16 * u.val)) = ![32 * k.val + 16 * u.val, 1408] := by
  revert k u; decide
theorem off45 (k : Fin k0_t1_loop.trips) (u : Fin 2) : k0_off45 k (BitVec.ofNat 32 (16 * u.val)) = ![32 * k.val + 16 * u.val, 1536] := by
  revert k u; decide
theorem off46 (k : Fin k0_t1_loop.trips) (u : Fin 2) : k0_off46 k (BitVec.ofNat 32 (16 * u.val)) = ![32 * k.val + 16 * u.val, 1664] := by
  revert k u; decide
theorem off47 (k : Fin k0_t1_loop.trips) (u : Fin 2) : k0_off47 k (BitVec.ofNat 32 (16 * u.val)) = ![32 * k.val + 16 * u.val, 1792] := by
  revert k u; decide
theorem off48 (k : Fin k0_t1_loop.trips) (u : Fin 2) : k0_off48 k (BitVec.ofNat 32 (16 * u.val)) = ![32 * k.val + 16 * u.val, 1920] := by
  revert k u; decide
theorem off49 (k : Fin k0_t1_loop.trips) : k0_off49 k = ![32 * k.val, 0] := by
  revert k; decide

end Cert.KernelIdeal.Hash
-- ==== Proof.Trip.lean ====
module

public import proofs.«01_k».proof.Proof.Hash

/-! The pieces one trip of the hashing loop stores: the one-hot slabs of its thirty-two rows and
    their packed codes. -/

@[expose] public section

set_option maxRecDepth 8192

noncomputable section

namespace Cert.KernelIdeal.Hash

open Idealize Idealize.ShloMosaic Idealize.ShloMosaic.TcCoe Cert.KernelIdeal Cert.KernelIdeal.Gen

variable {F : FTy → Type} [FloatOps F]

/-- The thirty-two column chunks of rows `32 k + 16 u …` of the block of `x`. -/
def rdRows (arg1 : Memref sig .tc .vmem S512x4096 .bf16) (X1 : BufTy.Contents (Elt F) arg1.view.ty)
    (k : Fin k0_t1_loop.trips) (u : Fin 2) : Fin 32 → Vec F S16x128 .bf16 :=
  ![View.readAt (Elt F) arg1.view (Rect.unit (s := S512x4096) (k0_off1 k (BitVec.ofNat 32 (16 * u.val))) S16x128.size (k0_off1_inb k u)).toLoadRect X1,
    View.readAt (Elt F) arg1.view (Rect.unit (s := S512x4096) (k0_off2 k (BitVec.ofNat 32 (16 * u.val))) S16x128.size (k0_off2_inb k u)).toLoadRect X1,
    View.readAt (Elt F) arg1.view (Rect.unit (s := S512x4096) (k0_off3 k (BitVec.ofNat 32 (16 * u.val))) S16x128.size (k0_off3_inb k u)).toLoadRect X1,
    View.readAt (Elt F) arg1.view (Rect.unit (s := S512x4096) (k0_off4 k (BitVec.ofNat 32 (16 * u.val))) S16x128.size (k0_off4_inb k u)).toLoadRect X1,
    View.readAt (Elt F) arg1.view (Rect.unit (s := S512x4096) (k0_off5 k (BitVec.ofNat 32 (16 * u.val))) S16x128.size (k0_off5_inb k u)).toLoadRect X1,
    View.readAt (Elt F) arg1.view (Rect.unit (s := S512x4096) (k0_off6 k (BitVec.ofNat 32 (16 * u.val))) S16x128.size (k0_off6_inb k u)).toLoadRect X1,
    View.readAt (Elt F) arg1.view (Rect.unit (s := S512x4096) (k0_off7 k (BitVec.ofNat 32 (16 * u.val))) S16x128.size (k0_off7_inb k u)).toLoadRect X1,
    View.readAt (Elt F) arg1.view (Rect.unit (s := S512x4096) (k0_off8 k (BitVec.ofNat 32 (16 * u.val))) S16x128.size (k0_off8_inb k u)).toLoadRect X1,
    View.readAt (Elt F) arg1.view (Rect.unit (s := S512x4096) (k0_off9 k (BitVec.ofNat 32 (16 * u.val))) S16x128.size (k0_off9_inb k u)).toLoadRect X1,
    View.readAt (Elt F) arg1.view (Rect.unit (s := S512x4096) (k0_off10 k (BitVec.ofNat 32 (16 * u.val))) S16x128.size (k0_off10_inb k u)).toLoadRect X1,
    View.readAt (Elt F) arg1.view (Rect.unit (s := S512x4096) (k0_off11 k (BitVec.ofNat 32 (16 * u.val))) S16x128.size (k0_off11_inb k u)).toLoadRect X1,
    View.readAt (Elt F) arg1.view (Rect.unit (s := S512x4096) (k0_off12 k (BitVec.ofNat 32 (16 * u.val))) S16x128.size (k0_off12_inb k u)).toLoadRect X1,
    View.readAt (Elt F) arg1.view (Rect.unit (s := S512x4096) (k0_off13 k (BitVec.ofNat 32 (16 * u.val))) S16x128.size (k0_off13_inb k u)).toLoadRect X1,
    View.readAt (Elt F) arg1.view (Rect.unit (s := S512x4096) (k0_off14 k (BitVec.ofNat 32 (16 * u.val))) S16x128.size (k0_off14_inb k u)).toLoadRect X1,
    View.readAt (Elt F) arg1.view (Rect.unit (s := S512x4096) (k0_off15 k (BitVec.ofNat 32 (16 * u.val))) S16x128.size (k0_off15_inb k u)).toLoadRect X1,
    View.readAt (Elt F) arg1.view (Rect.unit (s := S512x4096) (k0_off16 k (BitVec.ofNat 32 (16 * u.val))) S16x128.size (k0_off16_inb k u)).toLoadRect X1,
    View.readAt (Elt F) arg1.view (Rect.unit (s := S512x4096) (k0_off17 k (BitVec.ofNat 32 (16 * u.val))) S16x128.size (k0_off17_inb k u)).toLoadRect X1,
    View.readAt (Elt F) arg1.view (Rect.unit (s := S512x4096) (k0_off18 k (BitVec.ofNat 32 (16 * u.val))) S16x128.size (k0_off18_inb k u)).toLoadRect X1,
    View.readAt (Elt F) arg1.view (Rect.unit (s := S512x4096) (k0_off19 k (BitVec.ofNat 32 (16 * u.val))) S16x128.size (k0_off19_inb k u)).toLoadRect X1,
    View.readAt (Elt F) arg1.view (Rect.unit (s := S512x4096) (k0_off20 k (BitVec.ofNat 32 (16 * u.val))) S16x128.size (k0_off20_inb k u)).toLoadRect X1,
    View.readAt (Elt F) arg1.view (Rect.unit (s := S512x4096) (k0_off21 k (BitVec.ofNat 32 (16 * u.val))) S16x128.size (k0_off21_inb k u)).toLoadRect X1,
    View.readAt (Elt F) arg1.view (Rect.unit (s := S512x4096) (k0_off22 k (BitVec.ofNat 32 (16 * u.val))) S16x128.size (k0_off22_inb k u)).toLoadRect X1,
    View.readAt (Elt F) arg1.view (Rect.unit (s := S512x4096) (k0_off23 k (BitVec.ofNat 32 (16 * u.val))) S16x128.size (k0_off23_inb k u)).toLoadRect X1,
    View.readAt (Elt F) arg1.view (Rect.unit (s := S512x4096) (k0_off24 k (BitVec.ofNat 32 (16 * u.val))) S16x128.size (k0_off24_inb k u)).toLoadRect X1,
    View.readAt (Elt F) arg1.view (Rect.unit (s := S512x4096) (k0_off25 k (BitVec.ofNat 32 (16 * u.val))) S16x128.size (k0_off25_inb k u)).toLoadRect X1,
    View.readAt (Elt F) arg1.view (Rect.unit (s := S512x4096) (k0_off26 k (BitVec.ofNat 32 (16 * u.val))) S16x128.size (k0_off26_inb k u)).toLoadRect X1,
    View.readAt (Elt F) arg1.view (Rect.unit (s := S512x4096) (k0_off27 k (BitVec.ofNat 32 (16 * u.val))) S16x128.size (k0_off27_inb k u)).toLoadRect X1,
    View.readAt (Elt F) arg1.view (Rect.unit (s := S512x4096) (k0_off28 k (BitVec.ofNat 32 (16 * u.val))) S16x128.size (k0_off28_inb k u)).toLoadRect X1,
    View.readAt (Elt F) arg1.view (Rect.unit (s := S512x4096) (k0_off29 k (BitVec.ofNat 32 (16 * u.val))) S16x128.size (k0_off29_inb k u)).toLoadRect X1,
    View.readAt (Elt F) arg1.view (Rect.unit (s := S512x4096) (k0_off30 k (BitVec.ofNat 32 (16 * u.val))) S16x128.size (k0_off30_inb k u)).toLoadRect X1,
    View.readAt (Elt F) arg1.view (Rect.unit (s := S512x4096) (k0_off31 k (BitVec.ofNat 32 (16 * u.val))) S16x128.size (k0_off31_inb k u)).toLoadRect X1,
    View.readAt (Elt F) arg1.view (Rect.unit (s := S512x4096) (k0_off32 k (BitVec.ofNat 32 (16 * u.val))) S16x128.size (k0_off32_inb k u)).toLoadRect X1]

/-- The four index planes. -/
def rdIdx (arg2 : Memref sig .tc .vmem S4x8x128 .i32) (X2 : BufTy.Contents (Elt F) arg2.view.ty) :
    Fin 4 → Vec F S1x8x128 .i32 :=
  ![View.readAt (Elt F) arg2.view (Rect.unit (s := S4x8x128) ![0, 0, 0] S1x8x128.size inb_S4x8x128_S1x8x128_0_0_0).toLoadRect X2,
    View.readAt (Elt F) arg2.view (Rect.unit (s := S4x8x128) ![1, 0, 0] S1x8x128.size inb_S4x8x128_S1x8x128_1_0_0).toLoadRect X2,
    View.readAt (Elt F) arg2.view (Rect.unit (s := S4x8x128) ![2, 0, 0] S1x8x128.size inb_S4x8x128_S1x8x128_2_0_0).toLoadRect X2,
    View.readAt (Elt F) arg2.view (Rect.unit (s := S4x8x128) ![3, 0, 0] S1x8x128.size inb_S4x8x128_S1x8x128_3_0_0).toLoadRect X2]

/-- The fifteen threshold planes. -/
def rdThr (arg3 : Memref sig .tc .vmem S15x16x128 .bf16) (X3 : BufTy.Contents (Elt F) arg3.view.ty) :
    Fin 15 → Vec F S1x16x128 .bf16 :=
  ![View.readAt (Elt F) arg3.view (Rect.unit (s := S15x16x128) ![0, 0, 0] S1x16x128.size inb_S15x16x128_S1x16x128_0_0_0).toLoadRect X3,
    View.readAt (Elt F) arg3.view (Rect.unit (s := S15x16x128) ![1, 0, 0] S1x16x128.size inb_S15x16x128_S1x16x128_1_0_0).toLoadRect X3,
    View.readAt (Elt F) arg3.view (Rect.unit (s := S15x16x128) ![2, 0, 0] S1x16x128.size inb_S15x16x128_S1x16x128_2_0_0).toLoadRect X3,
    View.readAt (Elt F) arg3.view (Rect.unit (s := S15x16x128) ![3, 0, 0] S1x16x128.size inb_S15x16x128_S1x16x128_3_0_0).toLoadRect X3,
    View.readAt (Elt F) arg3.view (Rect.unit (s := S15x16x128) ![4, 0, 0] S1x16x128.size inb_S15x16x128_S1x16x128_4_0_0).toLoadRect X3,
    View.readAt (Elt F) arg3.view (Rect.unit (s := S15x16x128) ![5, 0, 0] S1x16x128.size inb_S15x16x128_S1x16x128_5_0_0).toLoadRect X3,
    View.readAt (Elt F) arg3.view (Rect.unit (s := S15x16x128) ![6, 0, 0] S1x16x128.size inb_S15x16x128_S1x16x128_6_0_0).toLoadRect X3,
    View.readAt (Elt F) arg3.view (Rect.unit (s := S15x16x128) ![7, 0, 0] S1x16x128.size inb_S15x16x128_S1x16x128_7_0_0).toLoadRect X3,
    View.readAt (Elt F) arg3.view (Rect.unit (s := S15x16x128) ![8, 0, 0] S1x16x128.size inb_S15x16x128_S1x16x128_8_0_0).toLoadRect X3,
    View.readAt (Elt F) arg3.view (Rect.unit (s := S15x16x128) ![9, 0, 0] S1x16x128.size inb_S15x16x128_S1x16x128_9_0_0).toLoadRect X3,
    View.readAt (Elt F) arg3.view (Rect.unit (s := S15x16x128) ![10, 0, 0] S1x16x128.size inb_S15x16x128_S1x16x128_10_0_0).toLoadRect X3,
    View.readAt (Elt F) arg3.view (Rect.unit (s := S15x16x128) ![11, 0, 0] S1x16x128.size inb_S15x16x128_S1x16x128_11_0_0).toLoadRect X3,
    View.readAt (Elt F) arg3.view (Rect.unit (s := S15x16x128) ![12, 0, 0] S1x16x128.size inb_S15x16x128_S1x16x128_12_0_0).toLoadRect X3,
    View.readAt (Elt F) arg3.view (Rect.unit (s := S15x16x128) ![13, 0, 0] S1x16x128.size inb_S15x16x128_S1x16x128_13_0_0).toLoadRect X3,
    View.readAt (Elt F) arg3.view (Rect.unit (s := S15x16x128) ![14, 0, 0] S1x16x128.size inb_S15x16x128_S1x16x128_14_0_0).toLoadRect X3]

section
variable (arg1 : Memref sig .tc .vmem S512x4096 .bf16) (X1 : BufTy.Contents (Elt F) arg1.view.ty)
  (arg2 : Memref sig .tc .vmem S4x8x128 .i32) (X2 : BufTy.Contents (Elt F) arg2.view.ty)
  (arg3 : Memref sig .tc .vmem S15x16x128 .bf16) (X3 : BufTy.Contents (Elt F) arg3.view.ty)
  (k : Fin k0_t1_loop.trips)

/-- The leaves of rows `32 k + 16 u …`. -/
def cw (u : Fin 2) : FVec F S16x128 .bf16 :=
  code (rdIdx arg2 X2) (rdRows arg1 X1 k u) (rdThr arg3 X3)

theorem merged_0_0_0 : trip_k0_t1.sl.r_26 arg1 arg2 X1 X2 k = merged 0 (rdIdx arg2 X2 0) (rdRows arg1 X1 k 0 0) (rdRows arg1 X1 k 0 1) (rdRows arg1 X1 k 0 2) (rdRows arg1 X1 k 0 3) (rdRows arg1 X1 k 0 4) (rdRows arg1 X1 k 0 5) (rdRows arg1 X1 k 0 6) (rdRows arg1 X1 k 0 7) := rfl

theorem merged_0_0_1 : trip_k0_t1.sl.r_27 arg1 arg2 X1 X2 k = merged 1 (rdIdx arg2 X2 0) (rdRows arg1 X1 k 0 0) (rdRows arg1 X1 k 0 1) (rdRows arg1 X1 k 0 2) (rdRows arg1 X1 k 0 3) (rdRows arg1 X1 k 0 4) (rdRows arg1 X1 k 0 5) (rdRows arg1 X1 k 0 6) (rdRows arg1 X1 k 0 7) := rfl

theorem merged_0_1_0 : trip_k0_t1.sl.r_55 arg1 arg2 X1 X2 k = merged 0 (rdIdx arg2 X2 1) (rdRows arg1 X1 k 0 8) (rdRows arg1 X1 k 0 9) (rdRows arg1 X1 k 0 10) (rdRows arg1 X1 k 0 11) (rdRows arg1 X1 k 0 12) (rdRows arg1 X1 k 0 13) (rdRows arg1 X1 k 0 14) (rdRows arg1 X1 k 0 15) := rfl

theorem merged_0_1_1 : trip_k0_t1.sl.r_56 arg1 arg2 X1 X2 k = merged 1 (rdIdx arg2 X2 1) (rdRows arg1 X1 k 0 8) (rdRows arg1 X1 k 0 9) (rdRows arg1 X1 k 0 10) (rdRows arg1 X1 k 0 11) (rdRows arg1 X1 k 0 12) (rdRows arg1 X1 k 0 13) (rdRows arg1 X1 k 0 14) (rdRows arg1 X1 k 0 15) := rfl

theorem merged_0_2_0 : trip_k0_t1.sl.r_82 arg1 arg2 X1 X2 k = merged 0 (rdIdx arg2 X2 2) (rdRows arg1 X1 k 0 16) (rdRows arg1 X1 k 0 17) (rdRows arg1 X1 k 0 18) (rdRows arg1 X1 k 0 19) (rdRows arg1 X1 k 0 20) (rdRows arg1 X1 k 0 21) (rdRows arg1 X1 k 0 22) (rdRows arg1 X1 k 0 23) := rfl

theorem merged_0_2_1 : trip_k0_t1.sl.r_83 arg1 arg2 X1 X2 k = merged 1 (rdIdx arg2 X2 2) (rdRows arg1 X1 k 0 16) (rdRows arg1 X1 k 0 17) (rdRows arg1 X1 k 0 18) (rdRows arg1 X1 k 0 19) (rdRows arg1 X1 k 0 20) (rdRows arg1 X1 k 0 21) (rdRows arg1 X1 k 0 22) (rdRows arg1 X1 k 0 23) := rfl

theorem merged_0_3_0 : trip_k0_t1.sl.v1356_lo arg1 arg2 X1 X2 k = merged 0 (rdIdx arg2 X2 3) (rdRows arg1 X1 k 0 24) (rdRows arg1 X1 k 0 25) (rdRows arg1 X1 k 0 26) (rdRows arg1 X1 k 0 27) (rdRows arg1 X1 k 0 28) (rdRows arg1 X1 k 0 29) (rdRows arg1 X1 k 0 30) (rdRows arg1 X1 k 0 31) := rfl

theorem merged_0_3_1 : trip_k0_t1.sl.v1356_hi arg1 arg2 X1 X2 k = merged 1 (rdIdx arg2 X2 3) (rdRows arg1 X1 k 0 24) (rdRows arg1 X1 k 0 25) (rdRows arg1 X1 k 0 26) (rdRows arg1 X1 k 0 27) (rdRows arg1 X1 k 0 28) (rdRows arg1 X1 k 0 29) (rdRows arg1 X1 k 0 30) (rdRows arg1 X1 k 0 31) := rfl

theorem split_0_0 : trip_k0_t1.sl.v1390 arg1 arg2 X1 X2 k = split0 (trip_k0_t1.sl.r_26 arg1 arg2 X1 X2 k) (trip_k0_t1.sl.r_55 arg1 arg2 X1 X2 k) (trip_k0_t1.sl.r_82 arg1 arg2 X1 X2 k) (trip_k0_t1.sl.v1356_lo arg1 arg2 X1 X2 k) (trip_k0_t1.sl.r_27 arg1 arg2 X1 X2 k) (trip_k0_t1.sl.r_56 arg1 arg2 X1 X2 k) (trip_k0_t1.sl.r_83 arg1 arg2 X1 X2 k) (trip_k0_t1.sl.v1356_hi arg1 arg2 X1 X2 k) := rfl

theorem split_0_1 : trip_k0_t1.sl.v1401 arg1 arg2 X1 X2 k = split1 (trip_k0_t1.sl.r_26 arg1 arg2 X1 X2 k) (trip_k0_t1.sl.r_55 arg1 arg2 X1 X2 k) (trip_k0_t1.sl.r_82 arg1 arg2 X1 X2 k) (trip_k0_t1.sl.v1356_lo arg1 arg2 X1 X2 k) (trip_k0_t1.sl.r_27 arg1 arg2 X1 X2 k) (trip_k0_t1.sl.r_56 arg1 arg2 X1 X2 k) (trip_k0_t1.sl.r_83 arg1 arg2 X1 X2 k) (trip_k0_t1.sl.v1356_hi arg1 arg2 X1 X2 k) := rfl

theorem split_0_2 : trip_k0_t1.sl.v1412 arg1 arg2 X1 X2 k = split2 (trip_k0_t1.sl.r_26 arg1 arg2 X1 X2 k) (trip_k0_t1.sl.r_55 arg1 arg2 X1 X2 k) (trip_k0_t1.sl.r_82 arg1 arg2 X1 X2 k) (trip_k0_t1.sl.v1356_lo arg1 arg2 X1 X2 k) (trip_k0_t1.sl.r_27 arg1 arg2 X1 X2 k) (trip_k0_t1.sl.r_56 arg1 arg2 X1 X2 k) (trip_k0_t1.sl.r_83 arg1 arg2 X1 X2 k) (trip_k0_t1.sl.v1356_hi arg1 arg2 X1 X2 k) := rfl

theorem split_0_3 : trip_k0_t1.sl.v1423 arg1 arg2 X1 X2 k = split3 (trip_k0_t1.sl.r_26 arg1 arg2 X1 X2 k) (trip_k0_t1.sl.r_55 arg1 arg2 X1 X2 k) (trip_k0_t1.sl.r_82 arg1 arg2 X1 X2 k) (trip_k0_t1.sl.v1356_lo arg1 arg2 X1 X2 k) (trip_k0_t1.sl.r_27 arg1 arg2 X1 X2 k) (trip_k0_t1.sl.r_56 arg1 arg2 X1 X2 k) (trip_k0_t1.sl.r_83 arg1 arg2 X1 X2 k) (trip_k0_t1.sl.v1356_hi arg1 arg2 X1 X2 k) := rfl

theorem tree_0_0 : trip_k0_t1.sl.r_111 arg1 arg2 arg3 X1 X2 X3 k = ch 0 (tree (trip_k0_t1.sl.v1390 arg1 arg2 X1 X2 k) (trip_k0_t1.sl.v1401 arg1 arg2 X1 X2 k) (trip_k0_t1.sl.v1412 arg1 arg2 X1 X2 k) (trip_k0_t1.sl.v1423 arg1 arg2 X1 X2 k) (fun n => shapeCast S16x128 (rdThr arg3 X3 n) shapeCasts_S1x16x128_S16x128)) := rfl

theorem tree_0_1 : trip_k0_t1.sl.r_112 arg1 arg2 arg3 X1 X2 X3 k = ch 1 (tree (trip_k0_t1.sl.v1390 arg1 arg2 X1 X2 k) (trip_k0_t1.sl.v1401 arg1 arg2 X1 X2 k) (trip_k0_t1.sl.v1412 arg1 arg2 X1 X2 k) (trip_k0_t1.sl.v1423 arg1 arg2 X1 X2 k) (fun n => shapeCast S16x128 (rdThr arg3 X3 n) shapeCasts_S1x16x128_S16x128)) := rfl

/-- The run's half 0 of the leaves is that half of `cw`. -/
theorem leaf_0_0 : trip_k0_t1.sl.r_111 arg1 arg2 arg3 X1 X2 X3 k = ch 0 (cw arg1 X1 arg2 X2 arg3 X3 k 0) := by
  rw [tree_0_0, split_0_0, split_0_1, split_0_2, split_0_3]
  rw [merged_0_0_0, merged_0_0_1, merged_0_1_0, merged_0_1_1, merged_0_2_0, merged_0_2_1, merged_0_3_0, merged_0_3_1]
  rfl

/-- The run's half 1 of the leaves is that half of `cw`. -/
theorem leaf_0_1 : trip_k0_t1.sl.r_112 arg1 arg2 arg3 X1 X2 X3 k = ch 1 (cw arg1 X1 arg2 X2 arg3 X3 k 0) := by
  rw [tree_0_1, split_0_0, split_0_1, split_0_2, split_0_3]
  rw [merged_0_0_0, merged_0_0_1, merged_0_1_0, merged_0_1_1, merged_0_2_0, merged_0_2_1, merged_0_3_0, merged_0_3_1]
  rfl

theorem merged_1_0_0 : trip_k0_t1.sl.r_158 arg1 arg2 X1 X2 k = merged 0 (rdIdx arg2 X2 0) (rdRows arg1 X1 k 1 0) (rdRows arg1 X1 k 1 1) (rdRows arg1 X1 k 1 2) (rdRows arg1 X1 k 1 3) (rdRows arg1 X1 k 1 4) (rdRows arg1 X1 k 1 5) (rdRows arg1 X1 k 1 6) (rdRows arg1 X1 k 1 7) := rfl

theorem merged_1_0_1 : trip_k0_t1.sl.r_159 arg1 arg2 X1 X2 k = merged 1 (rdIdx arg2 X2 0) (rdRows arg1 X1 k 1 0) (rdRows arg1 X1 k 1 1) (rdRows arg1 X1 k 1 2) (rdRows arg1 X1 k 1 3) (rdRows arg1 X1 k 1 4) (rdRows arg1 X1 k 1 5) (rdRows arg1 X1 k 1 6) (rdRows arg1 X1 k 1 7) := rfl

theorem merged_1_1_0 : trip_k0_t1.sl.r_182 arg1 arg2 X1 X2 k = merged 0 (rdIdx arg2 X2 1) (rdRows arg1 X1 k 1 8) (rdRows arg1 X1 k 1 9) (rdRows arg1 X1 k 1 10) (rdRows arg1 X1 k 1 11) (rdRows arg1 X1 k 1 12) (rdRows arg1 X1 k 1 13) (rdRows arg1 X1 k 1 14) (rdRows arg1 X1 k 1 15) := rfl

theorem merged_1_1_1 : trip_k0_t1.sl.r_183 arg1 arg2 X1 X2 k = merged 1 (rdIdx arg2 X2 1) (rdRows arg1 X1 k 1 8) (rdRows arg1 X1 k 1 9) (rdRows arg1 X1 k 1 10) (rdRows arg1 X1 k 1 11) (rdRows arg1 X1 k 1 12) (rdRows arg1 X1 k 1 13) (rdRows arg1 X1 k 1 14) (rdRows arg1 X1 k 1 15) := rfl

theorem merged_1_2_0 : trip_k0_t1.sl.r_209 arg1 arg2 X1 X2 k = merged 0 (rdIdx arg2 X2 2) (rdRows arg1 X1 k 1 16) (rdRows arg1 X1 k 1 17) (rdRows arg1 X1 k 1 18) (rdRows arg1 X1 k 1 19) (rdRows arg1 X1 k 1 20) (rdRows arg1 X1 k 1 21) (rdRows arg1 X1 k 1 22) (rdRows arg1 X1 k 1 23) := rfl

theorem merged_1_2_1 : trip_k0_t1.sl.r_210 arg1 arg2 X1 X2 k = merged 1 (rdIdx arg2 X2 2) (rdRows arg1 X1 k 1 16) (rdRows arg1 X1 k 1 17) (rdRows arg1 X1 k 1 18) (rdRows arg1 X1 k 1 19) (rdRows arg1 X1 k 1 20) (rdRows arg1 X1 k 1 21) (rdRows arg1 X1 k 1 22) (rdRows arg1 X1 k 1 23) := rfl

theorem merged_1_3_0 : trip_k0_t1.sl.r_237 arg1 arg2 X1 X2 k = merged 0 (rdIdx arg2 X2 3) (rdRows arg1 X1 k 1 24) (rdRows arg1 X1 k 1 25) (rdRows arg1 X1 k 1 26) (rdRows arg1 X1 k 1 27) (rdRows arg1 X1 k 1 28) (rdRows arg1 X1 k 1 29) (rdRows arg1 X1 k 1 30) (rdRows arg1 X1 k 1 31) := rfl

theorem merged_1_3_1 : trip_k0_t1.sl.r_238 arg1 arg2 X1 X2 k = merged 1 (rdIdx arg2 X2 3) (rdRows arg1 X1 k 1 24) (rdRows arg1 X1 k 1 25) (rdRows arg1 X1 k 1 26) (rdRows arg1 X1 k 1 27) (rdRows arg1 X1 k 1 28) (rdRows arg1 X1 k 1 29) (rdRows arg1 X1 k 1 30) (rdRows arg1 X1 k 1 31) := rfl

theorem split_1_0 : trip_k0_t1.sl.v3454 arg1 arg2 X1 X2 k = split0 (trip_k0_t1.sl.r_158 arg1 arg2 X1 X2 k) (trip_k0_t1.sl.r_182 arg1 arg2 X1 X2 k) (trip_k0_t1.sl.r_209 arg1 arg2 X1 X2 k) (trip_k0_t1.sl.r_237 arg1 arg2 X1 X2 k) (trip_k0_t1.sl.r_159 arg1 arg2 X1 X2 k) (trip_k0_t1.sl.r_183 arg1 arg2 X1 X2 k) (trip_k0_t1.sl.r_210 arg1 arg2 X1 X2 k) (trip_k0_t1.sl.r_238 arg1 arg2 X1 X2 k) := rfl

theorem split_1_1 : trip_k0_t1.sl.v3465 arg1 arg2 X1 X2 k = split1 (trip_k0_t1.sl.r_158 arg1 arg2 X1 X2 k) (trip_k0_t1.sl.r_182 arg1 arg2 X1 X2 k) (trip_k0_t1.sl.r_209 arg1 arg2 X1 X2 k) (trip_k0_t1.sl.r_237 arg1 arg2 X1 X2 k) (trip_k0_t1.sl.r_159 arg1 arg2 X1 X2 k) (trip_k0_t1.sl.r_183 arg1 arg2 X1 X2 k) (trip_k0_t1.sl.r_210 arg1 arg2 X1 X2 k) (trip_k0_t1.sl.r_238 arg1 arg2 X1 X2 k) := rfl

theorem split_1_2 : trip_k0_t1.sl.v3476 arg1 arg2 X1 X2 k = split2 (trip_k0_t1.sl.r_158 arg1 arg2 X1 X2 k) (trip_k0_t1.sl.r_182 arg1 arg2 X1 X2 k) (trip_k0_t1.sl.r_209 arg1 arg2 X1 X2 k) (trip_k0_t1.sl.r_237 arg1 arg2 X1 X2 k) (trip_k0_t1.sl.r_159 arg1 arg2 X1 X2 k) (trip_k0_t1.sl.r_183 arg1 arg2 X1 X2 k) (trip_k0_t1.sl.r_210 arg1 arg2 X1 X2 k) (trip_k0_t1.sl.r_238 arg1 arg2 X1 X2 k) := rfl

theorem split_1_3 : trip_k0_t1.sl.v3487 arg1 arg2 X1 X2 k = split3 (trip_k0_t1.sl.r_158 arg1 arg2 X1 X2 k) (trip_k0_t1.sl.r_182 arg1 arg2 X1 X2 k) (trip_k0_t1.sl.r_209 arg1 arg2 X1 X2 k) (trip_k0_t1.sl.r_237 arg1 arg2 X1 X2 k) (trip_k0_t1.sl.r_159 arg1 arg2 X1 X2 k) (trip_k0_t1.sl.r_183 arg1 arg2 X1 X2 k) (trip_k0_t1.sl.r_210 arg1 arg2 X1 X2 k) (trip_k0_t1.sl.r_238 arg1 arg2 X1 X2 k) := rfl

theorem tree_1_0 : trip_k0_t1.sl.r_250 arg1 arg2 arg3 X1 X2 X3 k = ch 0 (tree (trip_k0_t1.sl.v3454 arg1 arg2 X1 X2 k) (trip_k0_t1.sl.v3465 arg1 arg2 X1 X2 k) (trip_k0_t1.sl.v3476 arg1 arg2 X1 X2 k) (trip_k0_t1.sl.v3487 arg1 arg2 X1 X2 k) (fun n => shapeCast S16x128 (rdThr arg3 X3 n) shapeCasts_S1x16x128_S16x128)) := rfl

theorem tree_1_1 : trip_k0_t1.sl.r_251 arg1 arg2 arg3 X1 X2 X3 k = ch 1 (tree (trip_k0_t1.sl.v3454 arg1 arg2 X1 X2 k) (trip_k0_t1.sl.v3465 arg1 arg2 X1 X2 k) (trip_k0_t1.sl.v3476 arg1 arg2 X1 X2 k) (trip_k0_t1.sl.v3487 arg1 arg2 X1 X2 k) (fun n => shapeCast S16x128 (rdThr arg3 X3 n) shapeCasts_S1x16x128_S16x128)) := rfl

/-- The run's half 0 of the leaves is that half of `cw`. -/
theorem leaf_1_0 : trip_k0_t1.sl.r_250 arg1 arg2 arg3 X1 X2 X3 k = ch 0 (cw arg1 X1 arg2 X2 arg3 X3 k 1) := by
  rw [tree_1_0, split_1_0, split_1_1, split_1_2, split_1_3]
  rw [merged_1_0_0, merged_1_0_1, merged_1_1_0, merged_1_1_1, merged_1_2_0, merged_1_2_1, merged_1_3_0, merged_1_3_1]
  rfl

/-- The run's half 1 of the leaves is that half of `cw`. -/
theorem leaf_1_1 : trip_k0_t1.sl.r_251 arg1 arg2 arg3 X1 X2 X3 k = ch 1 (cw arg1 X1 arg2 X2 arg3 X3 k 1) := by
  rw [tree_1_1, split_1_0, split_1_1, split_1_2, split_1_3]
  rw [merged_1_0_0, merged_1_0_1, merged_1_1_0, merged_1_1_1, merged_1_2_0, merged_1_2_1, merged_1_3_0, merged_1_3_1]
  rfl

end
end Cert.KernelIdeal.Hash
-- ==== Proof.Pieces.lean ====
module

public import proofs.«01_k».proof.Proof.Trip

/-! The list of pieces one trip of the hashing loop stores. -/

@[expose] public section

set_option maxRecDepth 8192

noncomputable section

namespace Cert.KernelIdeal.Hash

open Idealize Idealize.ShloMosaic Idealize.ShloMosaic.TcCoe Cert.KernelIdeal Cert.KernelIdeal.Gen

variable {F : FTy → Type} [FloatOps F]

section
variable (arg1 : Memref sig .tc .vmem S512x4096 .bf16) (X1 : BufTy.Contents (Elt F) arg1.view.ty)
  (arg2 : Memref sig .tc .vmem S4x8x128 .i32) (X2 : BufTy.Contents (Elt F) arg2.view.ty)
  (arg3 : Memref sig .tc .vmem S15x16x128 .bf16) (X3 : BufTy.Contents (Elt F) arg3.view.ty)
  (k : Fin k0_t1_loop.trips)

theorem piece_1_15 : k0_pay486 k0_pay2 (trip_k0_t1.sl.r_266 arg1 arg2 arg3 lane X1 X2 X3 k) (trip_k0_t1.sl.r_267 arg1 arg2 arg3 lane X1 X2 X3 k) = slab 120#32 (ch 0 (cw arg1 X1 arg2 X2 arg3 X3 k 1)) (ch 1 (cw arg1 X1 arg2 X2 arg3 X3 k 1)) := by
  rw [← leaf_1_0, ← leaf_1_1]; rfl

theorem piece_1_14 : k0_pay482 lane k0_pay2 (trip_k0_t1.sl.r_250 arg1 arg2 arg3 X1 X2 X3 k) (trip_k0_t1.sl.r_251 arg1 arg2 arg3 X1 X2 X3 k) (16#32) (k0_pay480 lane) (k0_pay481 lane) 1#32 = slab 112#32 (ch 0 (cw arg1 X1 arg2 X2 arg3 X3 k 1)) (ch 1 (cw arg1 X1 arg2 X2 arg3 X3 k 1)) := by
  rw [← leaf_1_0, ← leaf_1_1]; rfl

theorem piece_1_13 : k0_pay479 k0_pay2 (trip_k0_t1.sl.r_250 arg1 arg2 arg3 X1 X2 X3 k) (trip_k0_t1.sl.r_251 arg1 arg2 arg3 X1 X2 X3 k) (k0_pay476 lane) (k0_pay477 lane) (k0_pay478 lane) = slab 104#32 (ch 0 (cw arg1 X1 arg2 X2 arg3 X3 k 1)) (ch 1 (cw arg1 X1 arg2 X2 arg3 X3 k 1)) := by
  rw [← leaf_1_0, ← leaf_1_1]; rfl

theorem piece_1_12 : k0_pay475 k0_pay2 (k0_pay470 lane) (trip_k0_t1.sl.r_264 arg1 arg2 arg3 X1 X2 X3 k) (trip_k0_t1.sl.r_265 arg1 arg2 arg3 X1 X2 X3 k) (k0_pay473 lane) k0_pay474 = slab 96#32 (ch 0 (cw arg1 X1 arg2 X2 arg3 X3 k 1)) (ch 1 (cw arg1 X1 arg2 X2 arg3 X3 k 1)) := by
  rw [← leaf_1_0, ← leaf_1_1]; rfl

theorem piece_1_11 : k0_pay469 k0_pay2 (trip_k0_t1.sl.r_262 arg1 arg2 arg3 lane X1 X2 X3 k) (trip_k0_t1.sl.r_263 arg1 arg2 arg3 lane X1 X2 X3 k) = slab 88#32 (ch 0 (cw arg1 X1 arg2 X2 arg3 X3 k 1)) (ch 1 (cw arg1 X1 arg2 X2 arg3 X3 k 1)) := by
  rw [← leaf_1_0, ← leaf_1_1]; rfl

theorem piece_1_10 : k0_pay465 lane k0_pay2 (trip_k0_t1.sl.r_250 arg1 arg2 arg3 X1 X2 X3 k) (trip_k0_t1.sl.r_251 arg1 arg2 arg3 X1 X2 X3 k) (16#32) (k0_pay463 lane) (k0_pay464 lane) 1#32 = slab 80#32 (ch 0 (cw arg1 X1 arg2 X2 arg3 X3 k 1)) (ch 1 (cw arg1 X1 arg2 X2 arg3 X3 k 1)) := by
  rw [← leaf_1_0, ← leaf_1_1]; rfl

theorem piece_1_9 : k0_pay462 k0_pay2 (trip_k0_t1.sl.r_250 arg1 arg2 arg3 X1 X2 X3 k) (trip_k0_t1.sl.r_251 arg1 arg2 arg3 X1 X2 X3 k) (k0_pay459 lane) (k0_pay460 lane) (k0_pay461 lane) = slab 72#32 (ch 0 (cw arg1 X1 arg2 X2 arg3 X3 k 1)) (ch 1 (cw arg1 X1 arg2 X2 arg3 X3 k 1)) := by
  rw [← leaf_1_0, ← leaf_1_1]; rfl

theorem piece_1_8 : k0_pay458 k0_pay2 (k0_pay453 lane) (trip_k0_t1.sl.r_260 arg1 arg2 arg3 X1 X2 X3 k) (trip_k0_t1.sl.r_261 arg1 arg2 arg3 X1 X2 X3 k) (k0_pay456 lane) k0_pay457 = slab 64#32 (ch 0 (cw arg1 X1 arg2 X2 arg3 X3 k 1)) (ch 1 (cw arg1 X1 arg2 X2 arg3 X3 k 1)) := by
  rw [← leaf_1_0, ← leaf_1_1]; rfl

theorem piece_1_7 : k0_pay452 k0_pay2 (trip_k0_t1.sl.r_258 arg1 arg2 arg3 lane X1 X2 X3 k) (trip_k0_t1.sl.r_259 arg1 arg2 arg3 lane X1 X2 X3 k) = slab 56#32 (ch 0 (cw arg1 X1 arg2 X2 arg3 X3 k 1)) (ch 1 (cw arg1 X1 arg2 X2 arg3 X3 k 1)) := by
  rw [← leaf_1_0, ← leaf_1_1]; rfl

theorem piece_1_6 : k0_pay448 lane k0_pay2 (trip_k0_t1.sl.r_250 arg1 arg2 arg3 X1 X2 X3 k) (trip_k0_t1.sl.r_251 arg1 arg2 arg3 X1 X2 X3 k) (16#32) (k0_pay446 lane) (k0_pay447 lane) 1#32 = slab 48#32 (ch 0 (cw arg1 X1 arg2 X2 arg3 X3 k 1)) (ch 1 (cw arg1 X1 arg2 X2 arg3 X3 k 1)) := by
  rw [← leaf_1_0, ← leaf_1_1]; rfl

theorem piece_1_5 : k0_pay445 k0_pay2 (trip_k0_t1.sl.r_250 arg1 arg2 arg3 X1 X2 X3 k) (trip_k0_t1.sl.r_251 arg1 arg2 arg3 X1 X2 X3 k) (k0_pay442 lane) (k0_pay443 lane) (k0_pay444 lane) = slab 40#32 (ch 0 (cw arg1 X1 arg2 X2 arg3 X3 k 1)) (ch 1 (cw arg1 X1 arg2 X2 arg3 X3 k 1)) := by
  rw [← leaf_1_0, ← leaf_1_1]; rfl

theorem piece_1_4 : k0_pay441 k0_pay2 (k0_pay436 lane) (trip_k0_t1.sl.r_256 arg1 arg2 arg3 X1 X2 X3 k) (trip_k0_t1.sl.r_257 arg1 arg2 arg3 X1 X2 X3 k) (k0_pay439 lane) k0_pay440 = slab 32#32 (ch 0 (cw arg1 X1 arg2 X2 arg3 X3 k 1)) (ch 1 (cw arg1 X1 arg2 X2 arg3 X3 k 1)) := by
  rw [← leaf_1_0, ← leaf_1_1]; rfl

theorem piece_1_3 : k0_pay435 k0_pay2 (trip_k0_t1.sl.r_254 arg1 arg2 arg3 lane X1 X2 X3 k) (trip_k0_t1.sl.r_255 arg1 arg2 arg3 lane X1 X2 X3 k) = slab 24#32 (ch 0 (cw arg1 X1 arg2 X2 arg3 X3 k 1)) (ch 1 (cw arg1 X1 arg2 X2 arg3 X3 k 1)) := by
  rw [← leaf_1_0, ← leaf_1_1]; rfl

theorem piece_1_2 : k0_pay431 lane k0_pay2 (trip_k0_t1.sl.r_250 arg1 arg2 arg3 X1 X2 X3 k) (trip_k0_t1.sl.r_251 arg1 arg2 arg3 X1 X2 X3 k) (16#32) (k0_pay429 lane) (k0_pay430 lane) 1#32 = slab 16#32 (ch 0 (cw arg1 X1 arg2 X2 arg3 X3 k 1)) (ch 1 (cw arg1 X1 arg2 X2 arg3 X3 k 1)) := by
  rw [← leaf_1_0, ← leaf_1_1]; rfl

theorem piece_1_1 : k0_pay428 k0_pay2 (trip_k0_t1.sl.r_250 arg1 arg2 arg3 X1 X2 X3 k) (trip_k0_t1.sl.r_251 arg1 arg2 arg3 X1 X2 X3 k) (k0_pay425 lane) (k0_pay426 lane) (k0_pay427 lane) = slab 8#32 (ch 0 (cw arg1 X1 arg2 X2 arg3 X3 k 1)) (ch 1 (cw arg1 X1 arg2 X2 arg3 X3 k 1)) := by
  rw [← leaf_1_0, ← leaf_1_1]; rfl

theorem piece_1_0 : k0_pay424 k0_pay2 (k0_pay419 lane) (trip_k0_t1.sl.r_252 arg1 arg2 arg3 X1 X2 X3 k) (trip_k0_t1.sl.r_253 arg1 arg2 arg3 X1 X2 X3 k) (k0_pay422 lane) k0_pay423 = slab 0#32 (ch 0 (cw arg1 X1 arg2 X2 arg3 X3 k 1)) (ch 1 (cw arg1 X1 arg2 X2 arg3 X3 k 1)) := by
  rw [← leaf_1_0, ← leaf_1_1]; rfl

theorem piece_0_15 : k0_pay242 lane k0_pay2 (trip_k0_t1.sl.r_111 arg1 arg2 arg3 X1 X2 X3 k) (trip_k0_t1.sl.r_112 arg1 arg2 arg3 X1 X2 X3 k) (k0_pay239 lane) (k0_pay240 lane) k0_pay241 = slab 120#32 (ch 0 (cw arg1 X1 arg2 X2 arg3 X3 k 0)) (ch 1 (cw arg1 X1 arg2 X2 arg3 X3 k 0)) := by
  rw [← leaf_0_0, ← leaf_0_1]; rfl

theorem piece_0_14 : k0_pay238 k0_pay2 (trip_k0_t1.sl.r_112 arg1 arg2 arg3 X1 X2 X3 k) (k0_pay236 lane) (trip_k0_t1.sl.r_128 arg1 arg2 arg3 X1 X2 X3 k) = slab 112#32 (ch 0 (cw arg1 X1 arg2 X2 arg3 X3 k 0)) (ch 1 (cw arg1 X1 arg2 X2 arg3 X3 k 0)) := by
  rw [← leaf_0_0, ← leaf_0_1]; rfl

theorem piece_0_13 : k0_pay235 k0_pay2 (k0_pay231 lane) (trip_k0_t1.sl.r_126 arg1 arg2 arg3 X1 X2 X3 k) (trip_k0_t1.sl.r_127 arg1 arg2 arg3 lane X1 X2 X3 k) k0_pay234 = slab 104#32 (ch 0 (cw arg1 X1 arg2 X2 arg3 X3 k 0)) (ch 1 (cw arg1 X1 arg2 X2 arg3 X3 k 0)) := by
  rw [← leaf_0_0, ← leaf_0_1]; rfl

theorem piece_0_12 : k0_pay230 (trip_k0_t1.sl.r_125 arg1 arg2 arg3 lane X1 X2 X3 k) k0_pay229 trip_k0_t1.sl.cst_478 = slab 96#32 (ch 0 (cw arg1 X1 arg2 X2 arg3 X3 k 0)) (ch 1 (cw arg1 X1 arg2 X2 arg3 X3 k 0)) := by
  rw [← leaf_0_0, ← leaf_0_1]; rfl

theorem piece_0_11 : k0_pay225 lane k0_pay2 (trip_k0_t1.sl.r_111 arg1 arg2 arg3 X1 X2 X3 k) (trip_k0_t1.sl.r_112 arg1 arg2 arg3 X1 X2 X3 k) (k0_pay222 lane) (k0_pay223 lane) k0_pay224 = slab 88#32 (ch 0 (cw arg1 X1 arg2 X2 arg3 X3 k 0)) (ch 1 (cw arg1 X1 arg2 X2 arg3 X3 k 0)) := by
  rw [← leaf_0_0, ← leaf_0_1]; rfl

theorem piece_0_10 : k0_pay221 k0_pay2 (trip_k0_t1.sl.r_112 arg1 arg2 arg3 X1 X2 X3 k) (k0_pay219 lane) (trip_k0_t1.sl.r_124 arg1 arg2 arg3 X1 X2 X3 k) = slab 80#32 (ch 0 (cw arg1 X1 arg2 X2 arg3 X3 k 0)) (ch 1 (cw arg1 X1 arg2 X2 arg3 X3 k 0)) := by
  rw [← leaf_0_0, ← leaf_0_1]; rfl

theorem piece_0_9 : k0_pay218 k0_pay2 (k0_pay214 lane) (trip_k0_t1.sl.r_122 arg1 arg2 arg3 X1 X2 X3 k) (trip_k0_t1.sl.r_123 arg1 arg2 arg3 lane X1 X2 X3 k) k0_pay217 = slab 72#32 (ch 0 (cw arg1 X1 arg2 X2 arg3 X3 k 0)) (ch 1 (cw arg1 X1 arg2 X2 arg3 X3 k 0)) := by
  rw [← leaf_0_0, ← leaf_0_1]; rfl

theorem piece_0_8 : k0_pay213 (trip_k0_t1.sl.r_121 arg1 arg2 arg3 lane X1 X2 X3 k) k0_pay212 trip_k0_t1.sl.cst_478 = slab 64#32 (ch 0 (cw arg1 X1 arg2 X2 arg3 X3 k 0)) (ch 1 (cw arg1 X1 arg2 X2 arg3 X3 k 0)) := by
  rw [← leaf_0_0, ← leaf_0_1]; rfl

theorem piece_0_7 : k0_pay208 lane k0_pay2 (trip_k0_t1.sl.r_111 arg1 arg2 arg3 X1 X2 X3 k) (trip_k0_t1.sl.r_112 arg1 arg2 arg3 X1 X2 X3 k) (k0_pay205 lane) (k0_pay206 lane) k0_pay207 = slab 56#32 (ch 0 (cw arg1 X1 arg2 X2 arg3 X3 k 0)) (ch 1 (cw arg1 X1 arg2 X2 arg3 X3 k 0)) := by
  rw [← leaf_0_0, ← leaf_0_1]; rfl

theorem piece_0_6 : k0_pay204 k0_pay2 (trip_k0_t1.sl.r_112 arg1 arg2 arg3 X1 X2 X3 k) (k0_pay202 lane) (trip_k0_t1.sl.r_120 arg1 arg2 arg3 X1 X2 X3 k) = slab 48#32 (ch 0 (cw arg1 X1 arg2 X2 arg3 X3 k 0)) (ch 1 (cw arg1 X1 arg2 X2 arg3 X3 k 0)) := by
  rw [← leaf_0_0, ← leaf_0_1]; rfl

theorem piece_0_5 : k0_pay201 k0_pay2 (k0_pay197 lane) (trip_k0_t1.sl.r_118 arg1 arg2 arg3 X1 X2 X3 k) (trip_k0_t1.sl.r_119 arg1 arg2 arg3 lane X1 X2 X3 k) k0_pay200 = slab 40#32 (ch 0 (cw arg1 X1 arg2 X2 arg3 X3 k 0)) (ch 1 (cw arg1 X1 arg2 X2 arg3 X3 k 0)) := by
  rw [← leaf_0_0, ← leaf_0_1]; rfl

theorem piece_0_4 : k0_pay196 (trip_k0_t1.sl.r_117 arg1 arg2 arg3 lane X1 X2 X3 k) k0_pay195 trip_k0_t1.sl.cst_478 = slab 32#32 (ch 0 (cw arg1 X1 arg2 X2 arg3 X3 k 0)) (ch 1 (cw arg1 X1 arg2 X2 arg3 X3 k 0)) := by
  rw [← leaf_0_0, ← leaf_0_1]; rfl

theorem piece_0_3 : k0_pay191 lane k0_pay2 (trip_k0_t1.sl.r_111 arg1 arg2 arg3 X1 X2 X3 k) (trip_k0_t1.sl.r_112 arg1 arg2 arg3 X1 X2 X3 k) (k0_pay188 lane) (k0_pay189 lane) k0_pay190 = slab 24#32 (ch 0 (cw arg1 X1 arg2 X2 arg3 X3 k 0)) (ch 1 (cw arg1 X1 arg2 X2 arg3 X3 k 0)) := by
  rw [← leaf_0_0, ← leaf_0_1]; rfl

theorem piece_0_2 : k0_pay187 k0_pay2 (trip_k0_t1.sl.r_112 arg1 arg2 arg3 X1 X2 X3 k) (k0_pay185 lane) (trip_k0_t1.sl.r_116 arg1 arg2 arg3 X1 X2 X3 k) = slab 16#32 (ch 0 (cw arg1 X1 arg2 X2 arg3 X3 k 0)) (ch 1 (cw arg1 X1 arg2 X2 arg3 X3 k 0)) := by
  rw [← leaf_0_0, ← leaf_0_1]; rfl

theorem piece_0_1 : k0_pay184 k0_pay2 (k0_pay180 lane) (trip_k0_t1.sl.r_114 arg1 arg2 arg3 X1 X2 X3 k) (trip_k0_t1.sl.r_115 arg1 arg2 arg3 lane X1 X2 X3 k) k0_pay183 = slab 8#32 (ch 0 (cw arg1 X1 arg2 X2 arg3 X3 k 0)) (ch 1 (cw arg1 X1 arg2 X2 arg3 X3 k 0)) := by
  rw [← leaf_0_0, ← leaf_0_1]; rfl

theorem piece_0_0 : k0_pay179 (trip_k0_t1.sl.r_113 arg1 arg2 arg3 lane X1 X2 X3 k) k0_pay178 trip_k0_t1.sl.cst_478 = slab 0#32 (ch 0 (cw arg1 X1 arg2 X2 arg3 X3 k 0)) (ch 1 (cw arg1 X1 arg2 X2 arg3 X3 k 0)) := by
  rw [← leaf_0_0, ← leaf_0_1]; rfl

theorem piece_codes : k0_pay496 (trip_k0_t1.sl.r_130 arg1 arg2 arg3 lane X1 X2 X3 k) (trip_k0_t1.sl.r_270 arg1 arg2 arg3 lane X1 X2 X3 k) (trip_k0_t1.sl.r_271 arg1 arg2 arg3 X1 X2 X3 k) (trip_k0_t1.sl.r_272 arg1 arg2 arg3 lane X1 X2 X3 k) (k0_pay495 lane) = stored (packed (ch 0 (cw arg1 X1 arg2 X2 arg3 X3 k 0)) (ch 1 (cw arg1 X1 arg2 X2 arg3 X3 k 0))) (packed (ch 0 (cw arg1 X1 arg2 X2 arg3 X3 k 1)) (ch 1 (cw arg1 X1 arg2 X2 arg3 X3 k 1))) := by
  rw [← leaf_0_0, ← leaf_0_1, ← leaf_1_0, ← leaf_1_1]; rfl

/-- The sixteen slabs of rows `32 k + 16 u …`, the last stored first. -/
def slabs (k : Fin k0_t1_loop.trips) (u : Fin 2) (cw : FVec F S16x128 .bf16) : List (View.Piece (Elt F) S512x2048 .bf16) :=
  [⟨Rect.unit (s := S512x2048) (k0_off48 k (BitVec.ofNat 32 (16 * u.val))) S16x128.size (k0_off48_inb k u), slab 120#32 (ch 0 cw) (ch 1 cw)⟩,
    ⟨Rect.unit (s := S512x2048) (k0_off47 k (BitVec.ofNat 32 (16 * u.val))) S16x128.size (k0_off47_inb k u), slab 112#32 (ch 0 cw) (ch 1 cw)⟩,
    ⟨Rect.unit (s := S512x2048) (k0_off46 k (BitVec.ofNat 32 (16 * u.val))) S16x128.size (k0_off46_inb k u), slab 104#32 (ch 0 cw) (ch 1 cw)⟩,
    ⟨Rect.unit (s := S512x2048) (k0_off45 k (BitVec.ofNat 32 (16 * u.val))) S16x128.size (k0_off45_inb k u), slab 96#32 (ch 0 cw) (ch 1 cw)⟩,
    ⟨Rect.unit (s := S512x2048) (k0_off44 k (BitVec.ofNat 32 (16 * u.val))) S16x128.size (k0_off44_inb k u), slab 88#32 (ch 0 cw) (ch 1 cw)⟩,
    ⟨Rect.unit (s := S512x2048) (k0_off43 k (BitVec.ofNat 32 (16 * u.val))) S16x128.size (k0_off43_inb k u), slab 80#32 (ch 0 cw) (ch 1 cw)⟩,
    ⟨Rect.unit (s := S512x2048) (k0_off42 k (BitVec.ofNat 32 (16 * u.val))) S16x128.size (k0_off42_inb k u), slab 72#32 (ch 0 cw) (ch 1 cw)⟩,
    ⟨Rect.unit (s := S512x2048) (k0_off41 k (BitVec.ofNat 32 (16 * u.val))) S16x128.size (k0_off41_inb k u), slab 64#32 (ch 0 cw) (ch 1 cw)⟩,
    ⟨Rect.unit (s := S512x2048) (k0_off40 k (BitVec.ofNat 32 (16 * u.val))) S16x128.size (k0_off40_inb k u), slab 56#32 (ch 0 cw) (ch 1 cw)⟩,
    ⟨Rect.unit (s := S512x2048) (k0_off39 k (BitVec.ofNat 32 (16 * u.val))) S16x128.size (k0_off39_inb k u), slab 48#32 (ch 0 cw) (ch 1 cw)⟩,
    ⟨Rect.unit (s := S512x2048) (k0_off38 k (BitVec.ofNat 32 (16 * u.val))) S16x128.size (k0_off38_inb k u), slab 40#32 (ch 0 cw) (ch 1 cw)⟩,
    ⟨Rect.unit (s := S512x2048) (k0_off37 k (BitVec.ofNat 32 (16 * u.val))) S16x128.size (k0_off37_inb k u), slab 32#32 (ch 0 cw) (ch 1 cw)⟩,
    ⟨Rect.unit (s := S512x2048) (k0_off36 k (BitVec.ofNat 32 (16 * u.val))) S16x128.size (k0_off36_inb k u), slab 24#32 (ch 0 cw) (ch 1 cw)⟩,
    ⟨Rect.unit (s := S512x2048) (k0_off35 k (BitVec.ofNat 32 (16 * u.val))) S16x128.size (k0_off35_inb k u), slab 16#32 (ch 0 cw) (ch 1 cw)⟩,
    ⟨Rect.unit (s := S512x2048) (k0_off34 k (BitVec.ofNat 32 (16 * u.val))) S16x128.size (k0_off34_inb k u), slab 8#32 (ch 0 cw) (ch 1 cw)⟩,
    ⟨Rect.unit (s := S512x2048) (k0_off33 k (BitVec.ofNat 32 (16 * u.val))) S16x128.size (k0_off33_inb k u), slab 0#32 (ch 0 cw) (ch 1 cw)⟩]

theorem trip_oh (𝒱 : Variants) (c : Dev nD) (bd : Option 𝒱.V) (i : grid0.Coords) (harg1 : arg1.IsWhole) (harg2 : arg2.IsWhole) (harg3 : arg3.IsWhole) (arg4 : Memref sig .tc .vmem S2048x128 .bf16) (harg4 : arg4.IsWhole) (arg5 : Memref sig .tc .vmem S2048x11008 .i8) (harg5 : arg5.IsWhole) (arg6 : Memref sig .tc .vmem S512x11008 .bf16) (harg6 : arg6.IsWhole) (arg7 : Memref sig .tc .vmem S512x64 .i8) (harg7 : arg7.IsWhole) (arg8 : Memref sig .tc .vmem S512x2048 .bf16) (harg8 : arg8.IsWhole) :
    (trip_k0_t1 (F := F) 𝒱 c bd i arg1 harg1 arg2 harg2 arg3 harg3 arg4 harg4 arg5 harg5 arg6 harg6 arg7 harg7 arg8 harg8 lane X1 X2 X3 k).2.1
      = slabs k 1 (cw arg1 X1 arg2 X2 arg3 X3 k 1) ++ slabs k 0 (cw arg1 X1 arg2 X2 arg3 X3 k 0) := by
  unfold trip_k0_t1
  dsimp only
  rw [piece_1_15, piece_1_14, piece_1_13, piece_1_12, piece_1_11, piece_1_10, piece_1_9, piece_1_8, piece_1_7, piece_1_6, piece_1_5, piece_1_4, piece_1_3, piece_1_2, piece_1_1, piece_1_0, piece_0_15, piece_0_14, piece_0_13, piece_0_12, piece_0_11, piece_0_10, piece_0_9, piece_0_8, piece_0_7, piece_0_6, piece_0_5, piece_0_4, piece_0_3, piece_0_2, piece_0_1, piece_0_0]
  rfl

theorem trip_codes (𝒱 : Variants) (c : Dev nD) (bd : Option 𝒱.V) (i : grid0.Coords) (harg1 : arg1.IsWhole) (harg2 : arg2.IsWhole) (harg3 : arg3.IsWhole) (arg4 : Memref sig .tc .vmem S2048x128 .bf16) (harg4 : arg4.IsWhole) (arg5 : Memref sig .tc .vmem S2048x11008 .i8) (harg5 : arg5.IsWhole) (arg6 : Memref sig .tc .vmem S512x11008 .bf16) (harg6 : arg6.IsWhole) (arg7 : Memref sig .tc .vmem S512x64 .i8) (harg7 : arg7.IsWhole) (arg8 : Memref sig .tc .vmem S512x2048 .bf16) (harg8 : arg8.IsWhole) :
    (trip_k0_t1 (F := F) 𝒱 c bd i arg1 harg1 arg2 harg2 arg3 harg3 arg4 harg4 arg5 harg5 arg6 harg6 arg7 harg7 arg8 harg8 lane X1 X2 X3 k).1
      = [⟨Rect.unit (s := S512x64) (k0_off49 k) S32x64.size (k0_off49_inb k), stored (packed (ch 0 (cw arg1 X1 arg2 X2 arg3 X3 k 0)) (ch 1 (cw arg1 X1 arg2 X2 arg3 X3 k 0))) (packed (ch 0 (cw arg1 X1 arg2 X2 arg3 X3 k 1)) (ch 1 (cw arg1 X1 arg2 X2 arg3 X3 k 1)))⟩] := by
  unfold trip_k0_t1
  dsimp only
  rw [piece_codes]

end
end Cert.KernelIdeal.Hash
-- ==== Proof.Lanes.lean ====
module

public import proofs.«01_k».proof.Proof.Hash
public import Idealize.ShloMosaic.Lib.ValueIdx
public import Idealize.ShloMosaic.Lib.KernelVsHost
public import Idealize.ShloMosaic.Lib.IdealHost
public import Idealize.ShloMosaic.Lib.Pipeline.Value
public import Idealize.ShloMosaic.Lib.Bf16PairInverse

/-! The hashing chain's steps at one index: the lane numbers they compute with, the lanes they take,
    the rows they pair. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx

variable {F : FTy → Type} [FloatOps F]

theorem lane_apply (r : Fin 8) (l : Fin 128) : lane (ix2 r l) = BitVec.ofNat 32 l.val := by
  show BitVec.ofNat 32 (0 * 128 + l.val) = _
  rw [Nat.zero_mul, Nat.zero_add]

theorem bit_apply (b : BitVec 32) (r : Fin 8) (l : Fin 128) :
    bit b (ix2 r l) = Scalar.cmpi .ne (Scalar.andi (BitVec.ofNat 32 l.val) b) 0#32 := by
  rw [← lane_apply r l]; rfl

theorem bit4 (r : Fin 8) (l : Fin 128) : bit 4#32 (ix2 r l) = BitVec.ofBool (decide (l.val / 4 % 2 = 1)) := by
  rw [bit_apply]; revert l; decide
theorem bit8 (r : Fin 8) (l : Fin 128) : bit 8#32 (ix2 r l) = BitVec.ofBool (decide (l.val / 8 % 2 = 1)) := by
  rw [bit_apply]; revert l; decide
theorem bit16 (r : Fin 8) (l : Fin 128) : bit 16#32 (ix2 r l) = BitVec.ofBool (decide (l.val / 16 % 2 = 1)) := by
  rw [bit_apply]; revert l; decide

/-- The floor quotient of one word. -/
def fd (x c : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (IntOp.remsi .vector x c) 0#32))
    (Scalar.subi (IntOp.divsi .vector x c) 1#32) (IntOp.divsi .vector x c)

theorem floorDiv_apply (v : IVec S8x128 32) (c : BitVec 32) (i : S8x128.Idx) : floorDiv v c i = fd (v i) c := rfl

theorem block_apply (r : Fin 8) (l : Fin 128) : floorDiv lane 32#32 (ix2 r l) = BitVec.ofNat 32 (l.val / 32) := by
  rw [floorDiv_apply, lane_apply]; revert l; decide

theorem sixteenth_apply (r : Fin 8) (l : Fin 128) : floorDiv lane 16#32 (ix2 r l) = BitVec.ofNat 32 (l.val / 16) := by
  rw [floorDiv_apply, lane_apply]; revert l; decide

/-- The remainder of one word by 128. -/
def md (x : BitVec 32) : BitVec 32 :=
  have d : BitVec 32 := Scalar.select (Scalar.cmpi .eq 128#32 0#32) 1#32 128#32
  have r := IntOp.remsi .vector x d
  Scalar.select (Scalar.andi (Scalar.xori (Scalar.cmpi .slt r 0#32) (Scalar.cmpi .slt d 0#32)) (Scalar.cmpi .ne r 0#32))
    (Scalar.addi r d) r

theorem mod128_apply (v : IVec S8x128 32) (i : S8x128.Idx) : mod128 v i = md (v i) := rfl

theorem even_apply (r : Fin 8) (l : Fin 128) :
    mod128 (muli (broadcast S8x128 2#32) lane) (ix2 r l) = BitVec.ofNat 32 (2 * l.val % 128) := by
  rw [mod128_apply]
  show md (2#32 * lane (ix2 r l)) = _
  rw [lane_apply]; revert l; decide

theorem odd_apply (r : Fin 8) (l : Fin 128) :
    mod128 (addi (muli (broadcast S8x128 2#32) lane) (broadcast S8x128 1#32)) (ix2 r l) = BitVec.ofNat 32 ((2 * l.val + 1) % 128) := by
  rw [mod128_apply]
  show md (2#32 * lane (ix2 r l) + 1#32) = _
  rw [lane_apply]; revert l; decide

/-- One index with a negative one counted from the end. -/
def wr (x : BitVec 32) : BitVec 32 := Scalar.select (Scalar.cmpi .slt x 0#32) (x + 128#32) x

theorem wrap_apply (idx : IVec S8x128 32) (i : S8x128.Idx) : wrap idx i = wr (idx i) := by
  unfold wrap
  rw [shapeCast_shapeCast]
  rfl

theorem wr_lane (l : Fin 128) : wr (BitVec.ofNat 32 l.val) = BitVec.ofNat 32 l.val := by revert l; decide

theorem gath_apply (idx : IVec S8x128 32) (x : FVec Ideal S8x128 .bf16) (r : Fin 8) (l n : Fin 128)
    (h : idx (ix2 r l) = BitVec.ofNat 32 n.val) : gath idx x (ix2 r l) = x (ix2 r n) := by
  show dynamicGather 1 x (wrap idx) (ix2 r l) = _
  unfold dynamicGather
  refine congrArg x (funext fun b => ?_)
  fin_cases b
  · rfl
  · refine Fin.ext ?_
    show (wrap idx (ix2 r l)).toNat % 128 = n.val
    rw [wrap_apply, h, wr_lane, BitVec.toNat_ofNat]
    omega

/-- The row of parity `p` in the pair `r`. -/
def row2 (p : Fin 2) (r : Fin 8) : Fin 16 := ⟨2 * r.val + p.val, by omega⟩

theorem ch_apply {F : FTy → Type} [FloatOps F] (p : Fin 2) (v : FVec F S16x128 .bf16) (r : Fin 8) (l : Fin 128) :
    ch p v (ix2 r l) = v (ix2 (row2 p r) l) := by
  unfold ch rowsOfParity
  refine congrArg v (funext fun b => ?_)
  fin_cases b <;> rfl

theorem half_apply {F : FTy → Type} [FloatOps F] (p : Fin 2) (v : FVec F S16x128 .bf16) (r : Fin 8) (l : Fin 128) :
    half p v (ix2 r l) = v (ix2 (row2 p r) l) := by
  unfold half
  rw [shapeCast_self]
  exact ch_apply p v r l

theorem rows_apply {F : FTy → Type} [FloatOps F] (lo hi : FVec F S8x128 .bf16) (r : Fin 8) (p : Fin 2) (l : Fin 128) :
    rows lo hi (ix2 (row2 p r) l) = (if p = 0 then lo else hi) (ix2 r l) := by
  have h := ch_apply p (rows lo hi) r l
  rw [← h]
  unfold ch rows
  rw [rowsOfParity_interleaveRows]

theorem exists_row2 (r : Fin 16) : ∃ (p : Fin 2) (q : Fin 8), r = row2 p q :=
  ⟨⟨r.val % 2, by omega⟩, ⟨r.val / 2, by omega⟩, Fin.ext (by simp [row2]; omega)⟩

theorem turn_apply {F : FTy → Type} [FloatOps F] (n : BitVec 32) (a : FVec F S8x128 .bf16) (r : Fin 8) (l : Fin 128) :
    turn n a (ix2 r l) = a (ix2 r ⟨(l.val + 128 - n.toNat % 128) % 128, by omega⟩) := by
  unfold turn
  refine dynamicRotate_apply _ _ _ _ _ _ fun b => ?_
  fin_cases b <;> rfl

theorem select_ofBool {s : Shape} {α : Type} (c : IVec s 1) (a b : s.Idx → α) (i : s.Idx) (q : Prop) [Decidable q]
    (h : c i = BitVec.ofBool (decide q)) : select c a b i = if q then a i else b i := by
  rw [select_apply, h]
  by_cases hq : q
  · rw [decide_eq_true hq, if_pos hq]; rfl
  · rw [decide_eq_false hq, if_neg hq]; rfl

/-- The block of eight chunks a lane takes from, `j` of them, `l / 4 % 8` the one taken. -/
theorem merged_apply (p : Fin 2) (i : Vec Ideal S1x8x128 .i32) (v : Fin 8 → Vec Ideal S16x128 .bf16) (r : Fin 8) (l n : Fin 128)
    (h : i (ix3 0 r l) = BitVec.ofNat 32 n.val) :
    merged p i (v 0) (v 1) (v 2) (v 3) (v 4) (v 5) (v 6) (v 7) (ix2 r l) = v ⟨l.val / 4 % 8, by omega⟩ (ix2 (row2 p r) n) := by
  have hi : shapeCast S8x128 i shapeCasts_S1x8x128_S8x128 (ix2 r l) = BitVec.ofNat 32 n.val := by
    rw [← h, shapeCast_dropUnit_apply]
    refine congrArg i (funext fun b => ?_)
    fin_cases b <;> rfl
  unfold merged
  simp only [select_ofBool _ _ _ _ _ (bit16 r l), select_ofBool _ _ _ _ _ (bit8 r l), select_ofBool _ _ _ _ _ (bit4 r l),
    gath_apply _ _ r l n hi, half_apply]
  have e : ∀ m : Fin 8, l.val / 4 % 8 = m.val → v ⟨l.val / 4 % 8, by omega⟩ = v m := fun m hm => congrArg v (Fin.ext hm)
  split_ifs <;> refine congrFun (e _ ?_).symm _ <;> simp <;> omega

theorem byBlock_apply {F : FTy → Type} [FloatOps F] (a : Fin 4 → FVec F S8x128 .bf16) (r : Fin 8) (l : Fin 128) :
    byBlock (a 0) (a 1) (a 2) (a 3) (ix2 r l) = a ⟨l.val / 32, by omega⟩ (ix2 r l) := by
  have hb : ∀ (m : Fin 4) (w : BitVec 32), w = BitVec.ofNat 32 m.val →
      cmpi .eq (floorDiv lane 32#32) (broadcast S8x128 w) (ix2 r l) = BitVec.ofBool (decide (l.val / 32 = m.val)) := by
    intro m w hw
    show Scalar.cmpi .eq (floorDiv lane 32#32 (ix2 r l)) w = _
    subst hw; rw [block_apply]; revert l m; decide
  unfold byBlock
  rw [select_ofBool _ _ _ _ _ (hb 3 3#32 rfl), select_ofBool _ _ _ _ _ (hb 2 2#32 rfl), select_ofBool _ _ _ _ _ (hb 1 1#32 rfl)]
  have e : ∀ m : Fin 4, l.val / 32 = m.val → a ⟨l.val / 32, by omega⟩ = a m := fun m hm => congrArg a (Fin.ext hm)
  split_ifs with h3 h2 h1
  · rw [e 3 h3]
  · rw [e 2 h2]
  · rw [e 1 h1]
  · rw [e 0 (by simp at *; omega)]

end Cert.KernelIdeal.Hash
-- ==== Proof.Leaf.lean ====
module

public import Idealize.ShloMosaic.PureOps.Ideal

/-! The leaf a codebook's tree of comparisons reaches, as a number. -/

@[expose] public section

noncomputable section

namespace Cert.Maddness

/-- One step down the tree: from node `n` of level `l`, whose threshold is entry `2 ^ l - 1 + n`, to
    one of its two children. -/
def step (x : EReal) (t : Fin 15 → EReal) (base n : ℕ) : ℕ := 2 * n + if t (Fin.ofNat 15 (base + n)) < x then 1 else 0

/-- The leaf reached with split values `x` and thresholds `t`. -/
def leaf (x : Fin 4 → EReal) (t : Fin 15 → EReal) : ℕ :=
  step (x 3) t 7 (step (x 2) t 3 (step (x 1) t 1 (step (x 0) t 0 0)))

theorem step_lt (x : EReal) (t : Fin 15 → EReal) (base n m : ℕ) (h : n < m) : step x t base n < 2 * m := by
  unfold step; split_ifs <;> omega

theorem leaf_lt (x : Fin 4 → EReal) (t : Fin 15 → EReal) : leaf x t < 16 :=
  step_lt _ _ _ _ 8 (step_lt _ _ _ _ 4 (step_lt _ _ _ _ 2 (step_lt _ _ _ _ 1 Nat.one_pos)))

end Cert.Maddness
-- ==== Proof.HashValue.lean ====
module

public import proofs.«01_k».proof.Proof.Lanes
public import proofs.«01_k».proof.Proof.Leaf

/-! What sixteen rows of the hashing chain hold, at the extended reals: the leaf numbers, the one-hot
    slabs and the packed codes. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness

local notation "I" => ShloMosaic.Ideal

/-- A number as an extended real. -/
def num (n : ℕ) : EReal := ((n : ℝ) : EReal)

theorem num_add (a b : ℕ) : num a + num b = num (a + b) := by
  unfold num; push_cast; rfl

theorem num_inj {a b : ℕ} : num a = num b ↔ a = b := by
  unfold num; rw [EReal.coe_eq_coe_iff, Nat.cast_inj]

theorem bits0 : Ideal.ofBits .bf16 0x0000#16 = num 0 := by
  rw [Ideal.ofBits_zero_bf16]; simp [num]
theorem bits1 : Ideal.ofBits .bf16 0x3F80#16 = num 1 := by
  rw [Ideal.ofBits_one_bf16]; simp [num]
theorem bits2 : Ideal.ofBits .bf16 0x4000#16 = num 2 := by
  simp [Ideal.ofBits, Ideal.ieee, -EReal.coe_mul]; norm_num; rfl
theorem bits4 : Ideal.ofBits .bf16 0x4080#16 = num 4 := by
  simp [Ideal.ofBits, Ideal.ieee, -EReal.coe_mul]; norm_num; rfl
theorem bits8 : Ideal.ofBits .bf16 0x4100#16 = num 8 := by
  simp [Ideal.ofBits, Ideal.ieee, -EReal.coe_mul]; norm_num; rfl
theorem bits16 : Ideal.ofBits .bf16 0x4180#16 = num 16 := by
  simp [Ideal.ofBits, Ideal.ieee, -EReal.coe_mul]; norm_num; rfl

theorem gt_apply {s : Shape} (a b : FVec I s .bf16) (i : s.Idx) : cmpf .ogt a b i = BitVec.ofBool (decide (b i < a i)) := by
  show Ideal.cmp .ogt (a i) (b i) = _
  unfold Ideal.cmp
  congr

theorem one_mul_bits (w : BitVec 16) : (Ideal.ofBits .bf16 0x3F80#16 : EReal) * Ideal.ofBits .bf16 w = Ideal.ofBits .bf16 w := by
  rw [Ideal.ofBits_one_bf16, one_mul]

theorem tree_num (X : Fin 4 → EReal) (T : Fin 15 → EReal) :
    ((((num 0 + if T 0 < X 0 then num 8 else num 0) + if (if T 0 < X 0 then T 2 else T 1) < X 1 then num 4 else num 0) +
        if (if (if T 0 < X 0 then T 2 else T 1) < X 1 then if T 0 < X 0 then T 6 else T 4
              else if T 0 < X 0 then T 5 else T 3) < X 2 then num 2 else num 0) +
      if (if (if (if T 0 < X 0 then T 2 else T 1) < X 1 then if T 0 < X 0 then T 6 else T 4
                  else if T 0 < X 0 then T 5 else T 3) < X 2 then
              if (if T 0 < X 0 then T 2 else T 1) < X 1 then if T 0 < X 0 then T 14 else T 10
              else if T 0 < X 0 then T 12 else T 8
            else
              if (if T 0 < X 0 then T 2 else T 1) < X 1 then if T 0 < X 0 then T 13 else T 9
              else if T 0 < X 0 then T 11 else T 7) < X 3 then num 1 else num 0) =
    num (leaf X T) := by
  unfold leaf step
  by_cases h0 : T 0 < X 0
  · by_cases h1 : T 2 < X 1
    · by_cases h2 : T 6 < X 2
      · by_cases h3 : T 14 < X 3 <;> simp [h0, h1, h2, h3, num_add, -Fin.ofNat_eq_cast]
      · by_cases h3 : T 13 < X 3 <;> simp [h0, h1, h2, h3, num_add, -Fin.ofNat_eq_cast]
    · by_cases h2 : T 5 < X 2
      · by_cases h3 : T 12 < X 3 <;> simp [h0, h1, h2, h3, num_add, -Fin.ofNat_eq_cast]
      · by_cases h3 : T 11 < X 3 <;> simp [h0, h1, h2, h3, num_add, -Fin.ofNat_eq_cast]
  · by_cases h1 : T 1 < X 1
    · by_cases h2 : T 4 < X 2
      · by_cases h3 : T 10 < X 3 <;> simp [h0, h1, h2, h3, num_add, -Fin.ofNat_eq_cast]
      · by_cases h3 : T 9 < X 3 <;> simp [h0, h1, h2, h3, num_add, -Fin.ofNat_eq_cast]
    · by_cases h2 : T 3 < X 2
      · by_cases h3 : T 8 < X 3 <;> simp [h0, h1, h2, h3, num_add, -Fin.ofNat_eq_cast]
      · by_cases h3 : T 7 < X 3 <;> simp [h0, h1, h2, h3, num_add, -Fin.ofNat_eq_cast]

theorem tree_apply (x : Fin 4 → FVec I S16x128 .bf16) (t : Fin 15 → FVec I S16x128 .bf16) (i : S16x128.Idx) :
    tree (x 0) (x 1) (x 2) (x 3) t i = num (leaf (fun l => x l i) (fun n => t n i)) := by
  have hs : ∀ (c : IVec S16x128 1) (a b : FVec I S16x128 .bf16) (q : Prop) [Decidable q], c i = BitVec.ofBool (decide q) →
      select c a b i = if q then a i else b i := fun c a b q _ h => select_ofBool c a b i q h
  have hk : ∀ (w : BitVec 16), (mulf (broadcast S16x128 (Scalar.ofBits .bf16 0x3F80#16)) (broadcast S16x128 (Scalar.ofBits .bf16 w)) : FVec I S16x128 .bf16) i
      = Ideal.ofBits .bf16 w := fun w => one_mul_bits w
  have hz : (broadcast S16x128 (Scalar.ofBits .bf16 0x0000#16) : FVec I S16x128 .bf16) i = num 0 := bits0
  unfold tree
  simp only [addf_apply, Ideal.addf_def]
  rw [hs _ _ _ _ (gt_apply _ _ i), hs _ _ _ _ (gt_apply _ _ i), hs _ _ _ _ (gt_apply _ _ i), hs _ _ _ _ (gt_apply _ _ i)]
  simp only [hk, hz, bits1, bits2, bits4, bits8, hs _ _ _ _ (gt_apply _ _ i)]
  exact tree_num (fun l => x l i) (fun n => t n i)

/-- The four split values, from the merged gathers `g p a` of parity `p`. -/
def splits (g : Fin 2 → Fin 4 → FVec I S8x128 .bf16) : Fin 4 → FVec I S16x128 .bf16
  | 0 => split0 (g 0 0) (g 0 1) (g 0 2) (g 0 3) (g 1 0) (g 1 1) (g 1 2) (g 1 3)
  | 1 => split1 (g 0 0) (g 0 1) (g 0 2) (g 0 3) (g 1 0) (g 1 1) (g 1 2) (g 1 3)
  | 2 => split2 (g 0 0) (g 0 1) (g 0 2) (g 0 3) (g 1 0) (g 1 1) (g 1 2) (g 1 3)
  | 3 => split3 (g 0 0) (g 0 1) (g 0 2) (g 0 3) (g 1 0) (g 1 1) (g 1 2) (g 1 3)

theorem back_block (c : Fin 128) (l : Fin 4) :
    (⟨(c.val + 32 * l.val) % 128 / 32, by omega⟩ : Fin 4) - l = ⟨c.val / 32, by omega⟩ := by
  revert c l; decide

/-- A split value of lane `c`: the merged gather of the lane's own block of 32, at the lane `32 l` further on. -/
theorem split_apply (g : Fin 2 → Fin 4 → FVec I S8x128 .bf16) (p : Fin 2) (r : Fin 8) (c : Fin 128) (l : Fin 4) :
    splits g l (ix2 (row2 p r) c) = g p ⟨c.val / 32, by omega⟩ (ix2 r ⟨(c.val + 32 * l.val) % 128, by omega⟩) := by
  have key : ∀ (l : Fin 4) (w : BitVec 32), w = BitVec.ofNat 32 (128 - 32 * l.val) →
      rows (turn w (byBlock (g 0 (0 - l)) (g 0 (1 - l)) (g 0 (2 - l)) (g 0 (3 - l))))
        (turn w (byBlock (g 1 (0 - l)) (g 1 (1 - l)) (g 1 (2 - l)) (g 1 (3 - l)))) (ix2 (row2 p r) c)
      = g p ⟨c.val / 32, by omega⟩ (ix2 r ⟨(c.val + 32 * l.val) % 128, by omega⟩) := by
    intro l w hw
    have h1 : (⟨(c.val + 128 - w.toNat % 128) % 128, by omega⟩ : Fin 128) = ⟨(c.val + 32 * l.val) % 128, by omega⟩ := by
      subst hw; revert c l; decide
    have h2 : (⟨(c.val + 32 * l.val) % 128 / 32, by omega⟩ : Fin 4) - l = ⟨c.val / 32, by omega⟩ := back_block c l
    rw [rows_apply]
    fin_cases p
    · show turn w (byBlock (g 0 (0 - l)) (g 0 (1 - l)) (g 0 (2 - l)) (g 0 (3 - l))) (ix2 r c) = _
      rw [turn_apply, h1, byBlock_apply (fun m => g 0 (m - l)), h2]; rfl
    · show turn w (byBlock (g 1 (0 - l)) (g 1 (1 - l)) (g 1 (2 - l)) (g 1 (3 - l))) (ix2 r c) = _
      rw [turn_apply, h1, byBlock_apply (fun m => g 1 (m - l)), h2]; rfl
  fin_cases l
  · show rows (byBlock (g 0 0) (g 0 1) (g 0 2) (g 0 3)) (byBlock (g 1 0) (g 1 1) (g 1 2) (g 1 3)) (ix2 (row2 p r) c) = _
    have h1 : (⟨(c.val + 32 * 0) % 128, by omega⟩ : Fin 128) = c := Fin.ext (by show (c.val + 32 * 0) % 128 = c.val; omega)
    rw [rows_apply]
    fin_cases p
    · show byBlock (g 0 0) (g 0 1) (g 0 2) (g 0 3) (ix2 r c) = g 0 _ (ix2 r ⟨(c.val + 32 * 0) % 128, _⟩)
      rw [byBlock_apply (g 0), h1]
    · show byBlock (g 1 0) (g 1 1) (g 1 2) (g 1 3) (ix2 r c) = g 1 _ (ix2 r ⟨(c.val + 32 * 0) % 128, _⟩)
      rw [byBlock_apply (g 1), h1]
  · exact key 1 96#32 rfl
  · exact key 2 64#32 rfl
  · exact key 3 32#32 rfl

/-- The leaf number of row `r`, codebook `c`, when the index planes hold lane numbers `n`. -/
theorem code_apply (i : Fin 4 → Vec I S1x8x128 .i32) (v : Fin 32 → Vec I S16x128 .bf16) (t : Fin 15 → Vec I S1x16x128 .bf16)
    (n : Fin 4 → Fin 128 → Fin 128) (hi : ∀ a r l, i a (ix3 0 r l) = BitVec.ofNat 32 (n a l).val) (r : Fin 16) (c : Fin 128) :
    code i v t (ix2 r c) = num (leaf
      (fun l => v ⟨c.val / 4, by omega⟩ (ix2 r (n ⟨c.val / 32, by omega⟩ ⟨(c.val + 32 * l.val) % 128, by omega⟩)))
      (fun m => t m (ix3 0 r c))) := by
  obtain ⟨p, q, rfl⟩ := exists_row2 r
  let g : Fin 2 → Fin 4 → FVec I S8x128 .bf16 := fun p a =>
    merged p (i a) (v ⟨8 * a.val + 0, by omega⟩) (v ⟨8 * a.val + 1, by omega⟩) (v ⟨8 * a.val + 2, by omega⟩) (v ⟨8 * a.val + 3, by omega⟩)
      (v ⟨8 * a.val + 4, by omega⟩) (v ⟨8 * a.val + 5, by omega⟩) (v ⟨8 * a.val + 6, by omega⟩) (v ⟨8 * a.val + 7, by omega⟩)
  have hg : ∀ a l, g p a (ix2 q l) = v ⟨8 * a.val + l.val / 4 % 8, by omega⟩ (ix2 (row2 p q) (n a l)) := fun a l =>
    merged_apply p (i a) (fun k => v ⟨8 * a.val + k.val, by omega⟩) q l (n a l) (hi a q l)
  have hs := split_apply g p q c
  have hc : code i v t = tree (splits g 0) (splits g 1) (splits g 2) (splits g 3)
      (fun n => shapeCast S16x128 (t n) shapeCasts_S1x16x128_S16x128) := rfl
  rw [hc, tree_apply]
  refine congrArg num (congrArg₂ leaf (funext fun l => ?_) (funext fun m => ?_))
  · rw [hs, hg]
    have h1 : (⟨8 * (c.val / 32) + (c.val + 32 * l.val) % 128 / 4 % 8, by omega⟩ : Fin 32) = ⟨c.val / 4, by omega⟩ :=
      Fin.ext (by show 8 * (c.val / 32) + (c.val + 32 * l.val) % 128 / 4 % 8 = c.val / 4; omega)
    rw [h1]
  · rw [shapeCast_dropUnit_apply]
    refine congrArg (t m) (funext fun b => ?_)
    fin_cases b <;> rfl

/-- Codes taken at lane indices. -/
theorem taken_apply (idx : IVec S8x128 32) (w : FVec I S16x128 .bf16) (n : Fin 128 → Fin 128)
    (h : ∀ r l, idx (ix2 r l) = BitVec.ofNat 32 (n l).val) (r : Fin 16) (l : Fin 128) :
    taken idx (ch 0 w) (ch 1 w) (ix2 r l) = w (ix2 r (n l)) := by
  obtain ⟨p, q, rfl⟩ := exists_row2 r
  unfold taken
  rw [rows_apply]
  fin_cases p
  · exact (gath_apply idx _ q l (n l) (h q l)).trans (ch_apply 0 w q (n l))
  · exact (gath_apply idx _ q l (n l) (h q l)).trans (ch_apply 1 w q (n l))

/-- The remainder of one word by 16. -/
def md16 (x : BitVec 32) : BitVec 32 :=
  have d : BitVec 32 := Scalar.select (Scalar.cmpi .eq 16#32 0#32) 1#32 16#32
  have r := IntOp.remsi .vector x d
  Scalar.select (Scalar.andi (Scalar.xori (Scalar.cmpi .slt r 0#32) (Scalar.cmpi .slt d 0#32)) (Scalar.cmpi .ne r 0#32))
    (Scalar.addi r d) r

theorem leafNo_apply (r : Fin 16) (l : Fin 128) : leafNo (F := I) (ix2 r l) = num (l.val % 16) := by
  have h : leafNo (F := I) (ix2 r l) = (((md16 (BitVec.ofNat 32 (0 * 128 + l.val))).toInt : ℝ) : EReal) := rfl
  have h2 : (md16 (BitVec.ofNat 32 (0 * 128 + l.val))).toInt = ((l.val % 16 : ℕ) : ℤ) := by clear h; revert l; decide
  rw [h, h2]; rfl

/-- A lane of a slab: whether the codebook's leaf is the lane's. -/
theorem slab_apply (j : Fin 16) (w : FVec I S16x128 .bf16) (b : BitVec 32) (hb : b = BitVec.ofNat 32 (8 * j.val)) (r : Fin 16) (l : Fin 128) :
    slab b (ch 0 w) (ch 1 w) (ix2 r l) = if w (ix2 r ⟨8 * j.val + l.val / 16, by omega⟩) = num (l.val % 16) then num 1 else num 0 := by
  have hn : ∀ (r : Fin 8) (l : Fin 128), addi (broadcast S8x128 b) (floorDiv lane 16#32) (ix2 r l) = BitVec.ofNat 32 (8 * j.val + l.val / 16) := by
    intro r l
    show b + floorDiv lane 16#32 (ix2 r l) = _
    rw [sixteenth_apply, hb, ← BitVec.ofNat_add]
  have ht := taken_apply _ w (fun l => ⟨8 * j.val + l.val / 16, by omega⟩) hn r l
  unfold slab
  rw [shapeCast_self, select_ofBool _ _ _ _ (w (ix2 r ⟨8 * j.val + l.val / 16, by omega⟩) = num (l.val % 16))]
  · show (if _ then Ideal.ofBits .bf16 0x3F80#16 else Ideal.ofBits .bf16 0x0000#16) = _
    rw [bits0, bits1]
  · show Ideal.cmp .oeq _ _ = _
    rw [ht, leafNo_apply]; rfl

theorem fptosi_num (n : ℕ) (h : n < 2 ^ 31) : Ideal.fptosi 32 (num n) = BitVec.ofNat 32 n := by
  unfold Ideal.fptosi num
  rw [Ideal.toIntClamped_coe, if_pos (Nat.cast_nonneg n), Int.floor_natCast]
  have h1 : min (((2 ^ (32 - 1) : ℕ) : ℤ) - 1) (n : ℤ) = n := by norm_num at h ⊢; omega
  rw [h1, max_eq_right (by norm_num; try omega)]
  rfl

/-- A lane below 64 of the packed codes. -/
theorem packed_apply (w : FVec I S16x128 .bf16) (q : Fin 128 → ℕ) (r : Fin 16) (hq : ∀ c, q c < 16) (h : ∀ c, w (ix2 r c) = num (q c)) (l : Fin 64) :
    packed (ch 0 w) (ch 1 w) (ix2 r ⟨l.val, by omega⟩)
      = BitVec.ofNat 32 (q ⟨2 * l.val, by omega⟩ + 16 * q ⟨2 * l.val + 1, by omega⟩) := by
  have h0 := taken_apply _ w (fun l => ⟨2 * l.val % 128, by omega⟩) even_apply r ⟨l.val, by omega⟩
  have h1 := taken_apply _ w (fun l => ⟨(2 * l.val + 1) % 128, by omega⟩) odd_apply r ⟨l.val, by omega⟩
  rw [h] at h0 h1
  have hp : packed (ch 0 w) (ch 1 w) (ix2 r ⟨l.val, by omega⟩) = Ideal.fptosi 32
      ((taken (mod128 (muli (broadcast S8x128 2#32) lane)) (ch 0 w) (ch 1 w) (ix2 r ⟨l.val, by omega⟩) : EReal) + Ideal.ofBits .bf16 0x4180#16 *
        (taken (mod128 (addi (muli (broadcast S8x128 2#32) lane) (broadcast S8x128 1#32))) (ch 0 w) (ch 1 w) (ix2 r ⟨l.val, by omega⟩) : EReal)) := rfl
  rw [hp, h0, h1, bits16]
  have e0 : (⟨2 * l.val % 128, by omega⟩ : Fin 128) = ⟨2 * l.val, by omega⟩ := Fin.ext (by simp; omega)
  have e1 : (⟨(2 * l.val + 1) % 128, by omega⟩ : Fin 128) = ⟨2 * l.val + 1, by omega⟩ := Fin.ext (by simp; omega)
  show Ideal.fptosi 32 (num (q ⟨2 * l.val % 128, _⟩) + num 16 * num (q ⟨(2 * l.val + 1) % 128, _⟩)) = _
  rw [e0, e1]
  have hm : ∀ a b : ℕ, num a * num b = num (a * b) := fun a b => by unfold num; push_cast; rfl
  rw [hm, num_add, fptosi_num]
  have := hq ⟨2 * l.val, by omega⟩; have := hq ⟨2 * l.val + 1, by omega⟩
  omega

end Cert.KernelIdeal.Hash
-- ==== Proof.Loop.lean ====
module

public import proofs.«01_k».proof.Proof.Offsets
public import proofs.«01_k».proof.Proof.Pieces
public import proofs.«01_k».proof.Proof.HashValue
public import Idealize.ShloMosaic.Lib.Writes

/-! What the hashing loop leaves: the one-hot block and the packed codes of a block of 512 rows. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness

local notation "I" => ShloMosaic.Ideal

/-- The leaf of row `R`, codebook `c` of a block: from the block `xr` of `x`, the lane numbers `n` and the thresholds `tr`. -/
def leafAt (xr : Vec I S512x4096 .bf16) (n : Fin 4 → Fin 128 → Fin 128) (tr : Vec I S15x16x128 .bf16) (R : Fin 512) (c : Fin 128) : ℕ :=
  leaf (fun l => xr (ix2 R ⟨128 * (c.val / 4) + (n ⟨c.val / 32, by omega⟩ ⟨(c.val + 32 * l.val) % 128, by omega⟩).val, by omega⟩))
    (fun m => tr (ix3 m ⟨R.val % 16, by omega⟩ c))

/-- The one-hot block. -/
def oneHot (q : Fin 512 → Fin 128 → ℕ) : Vec I S512x2048 .bf16 := fun y =>
  if q (y 0) ⟨(y 1).val / 16, by have := idx2_lt1 y; omega⟩ = (y 1).val % 16 then num 1 else num 0

/-- The packed codes. -/
def pack (q : Fin 512 → Fin 128 → ℕ) : Vec I S512x64 .i8 := fun y =>
  BitVec.ofNat 8 (q (y 0) ⟨2 * (y 1).val, by have := idx2_lt1 y; omega⟩ + 16 * q (y 0) ⟨2 * (y 1).val + 1, by have := idx2_lt1 y; omega⟩)

/-- The row of a block that row `r` of sub-block `u` of trip `k` is. -/
def rowOf (k : Fin k0_t1_loop.trips) (u : Fin 2) (r : Fin 16) : Fin 512 :=
  ⟨32 * k.val + 16 * u.val + r.val, by have := Nat.lt_of_lt_of_le k.isLt (Nat.le_of_eq trips_eq); omega⟩

variable (arg1 : Memref sig .tc .vmem S512x4096 .bf16) (X1 : BufTy.Contents (Elt I) arg1.view.ty)
  (arg2 : Memref sig .tc .vmem S4x8x128 .i32) (X2 : BufTy.Contents (Elt I) arg2.view.ty)
  (arg3 : Memref sig .tc .vmem S15x16x128 .bf16) (X3 : BufTy.Contents (Elt I) arg3.view.ty)
  (n : Fin 4 → Fin 128 → Fin 128)

theorem read_chunk (k : Fin k0_t1_loop.trips) (u : Fin 2) (j : ℕ) (off : Fin 2 → ℕ) (inb : ∀ a, off a + S16x128.size a ≤ S512x4096.size a)
    (h : off = ![32 * k.val + 16 * u.val, 128 * j]) (hj : j < 32) (r : Fin 16) (l : Fin 128) :
    View.readAt (Elt I) arg1.view (Rect.unit (s := S512x4096) off S16x128.size inb).toLoadRect X1 (ix2 r l)
      = View.read (Elt I) arg1.view X1 (ix2 (rowOf k u r) ⟨128 * j + l.val, by omega⟩) := by
  subst h
  rw [View.readAt_apply]
  refine congrArg _ (funext fun b => Fin.ext ?_)
  fin_cases b
  · show 32 * k.val + 16 * u.val + 1 * r.val = 32 * k.val + 16 * u.val + r.val
    omega
  · show 128 * j + 1 * l.val = 128 * j + l.val
    omega

theorem rdRows_apply (k : Fin k0_t1_loop.trips) (u : Fin 2) (j : Fin 32) (r : Fin 16) (l : Fin 128) :
    rdRows arg1 X1 k u j (ix2 r l) = View.read (Elt I) arg1.view X1 (ix2 (rowOf k u r) ⟨128 * j.val + l.val, by omega⟩) := by
  fin_cases j
  · exact read_chunk arg1 X1 k u 0 _ (k0_off1_inb k u) (off1 k u) (by decide) r l
  · exact read_chunk arg1 X1 k u 1 _ (k0_off2_inb k u) (off2 k u) (by decide) r l
  · exact read_chunk arg1 X1 k u 2 _ (k0_off3_inb k u) (off3 k u) (by decide) r l
  · exact read_chunk arg1 X1 k u 3 _ (k0_off4_inb k u) (off4 k u) (by decide) r l
  · exact read_chunk arg1 X1 k u 4 _ (k0_off5_inb k u) (off5 k u) (by decide) r l
  · exact read_chunk arg1 X1 k u 5 _ (k0_off6_inb k u) (off6 k u) (by decide) r l
  · exact read_chunk arg1 X1 k u 6 _ (k0_off7_inb k u) (off7 k u) (by decide) r l
  · exact read_chunk arg1 X1 k u 7 _ (k0_off8_inb k u) (off8 k u) (by decide) r l
  · exact read_chunk arg1 X1 k u 8 _ (k0_off9_inb k u) (off9 k u) (by decide) r l
  · exact read_chunk arg1 X1 k u 9 _ (k0_off10_inb k u) (off10 k u) (by decide) r l
  · exact read_chunk arg1 X1 k u 10 _ (k0_off11_inb k u) (off11 k u) (by decide) r l
  · exact read_chunk arg1 X1 k u 11 _ (k0_off12_inb k u) (off12 k u) (by decide) r l
  · exact read_chunk arg1 X1 k u 12 _ (k0_off13_inb k u) (off13 k u) (by decide) r l
  · exact read_chunk arg1 X1 k u 13 _ (k0_off14_inb k u) (off14 k u) (by decide) r l
  · exact read_chunk arg1 X1 k u 14 _ (k0_off15_inb k u) (off15 k u) (by decide) r l
  · exact read_chunk arg1 X1 k u 15 _ (k0_off16_inb k u) (off16 k u) (by decide) r l
  · exact read_chunk arg1 X1 k u 16 _ (k0_off17_inb k u) (off17 k u) (by decide) r l
  · exact read_chunk arg1 X1 k u 17 _ (k0_off18_inb k u) (off18 k u) (by decide) r l
  · exact read_chunk arg1 X1 k u 18 _ (k0_off19_inb k u) (off19 k u) (by decide) r l
  · exact read_chunk arg1 X1 k u 19 _ (k0_off20_inb k u) (off20 k u) (by decide) r l
  · exact read_chunk arg1 X1 k u 20 _ (k0_off21_inb k u) (off21 k u) (by decide) r l
  · exact read_chunk arg1 X1 k u 21 _ (k0_off22_inb k u) (off22 k u) (by decide) r l
  · exact read_chunk arg1 X1 k u 22 _ (k0_off23_inb k u) (off23 k u) (by decide) r l
  · exact read_chunk arg1 X1 k u 23 _ (k0_off24_inb k u) (off24 k u) (by decide) r l
  · exact read_chunk arg1 X1 k u 24 _ (k0_off25_inb k u) (off25 k u) (by decide) r l
  · exact read_chunk arg1 X1 k u 25 _ (k0_off26_inb k u) (off26 k u) (by decide) r l
  · exact read_chunk arg1 X1 k u 26 _ (k0_off27_inb k u) (off27 k u) (by decide) r l
  · exact read_chunk arg1 X1 k u 27 _ (k0_off28_inb k u) (off28 k u) (by decide) r l
  · exact read_chunk arg1 X1 k u 28 _ (k0_off29_inb k u) (off29 k u) (by decide) r l
  · exact read_chunk arg1 X1 k u 29 _ (k0_off30_inb k u) (off30 k u) (by decide) r l
  · exact read_chunk arg1 X1 k u 30 _ (k0_off31_inb k u) (off31 k u) (by decide) r l
  · exact read_chunk arg1 X1 k u 31 _ (k0_off32_inb k u) (off32 k u) (by decide) r l

theorem rdIdx_apply (a : Fin 4) (r : Fin 8) (l : Fin 128) :
    rdIdx arg2 X2 a (ix3 0 r l) = View.read (Elt I) arg2.view X2 (ix3 a r l) := by
  fin_cases a <;>
  · refine congrArg (View.read (Elt I) arg2.view X2) (funext fun b => Fin.ext ?_)
    fin_cases b
    · rfl
    · show 0 + 1 * r.val = r.val; omega
    · show 0 + 1 * l.val = l.val; omega

theorem read_plane (m : Fin 15) (off : Fin 3 → ℕ) (inb : ∀ a, off a + S1x16x128.size a ≤ S15x16x128.size a)
    (h : off = ![m.val, 0, 0]) (r : Fin 16) (l : Fin 128) :
    View.readAt (Elt I) arg3.view (Rect.unit (s := S15x16x128) off S1x16x128.size inb).toLoadRect X3 (ix3 0 r l)
      = View.read (Elt I) arg3.view X3 (ix3 m r l) := by
  subst h
  rw [View.readAt_apply]
  refine congrArg _ (funext fun b => Fin.ext ?_)
  fin_cases b
  · show m.val + 1 * 0 = m.val; omega
  · show 0 + 1 * r.val = r.val; omega
  · show 0 + 1 * l.val = l.val; omega

theorem rdThr_apply (a : Fin 15) (r : Fin 16) (l : Fin 128) :
    rdThr arg3 X3 a (ix3 0 r l) = View.read (Elt I) arg3.view X3 (ix3 a r l) := by
  fin_cases a
  · exact read_plane arg3 X3 0 _ inb_S15x16x128_S1x16x128_0_0_0 rfl r l
  · exact read_plane arg3 X3 1 _ inb_S15x16x128_S1x16x128_1_0_0 rfl r l
  · exact read_plane arg3 X3 2 _ inb_S15x16x128_S1x16x128_2_0_0 rfl r l
  · exact read_plane arg3 X3 3 _ inb_S15x16x128_S1x16x128_3_0_0 rfl r l
  · exact read_plane arg3 X3 4 _ inb_S15x16x128_S1x16x128_4_0_0 rfl r l
  · exact read_plane arg3 X3 5 _ inb_S15x16x128_S1x16x128_5_0_0 rfl r l
  · exact read_plane arg3 X3 6 _ inb_S15x16x128_S1x16x128_6_0_0 rfl r l
  · exact read_plane arg3 X3 7 _ inb_S15x16x128_S1x16x128_7_0_0 rfl r l
  · exact read_plane arg3 X3 8 _ inb_S15x16x128_S1x16x128_8_0_0 rfl r l
  · exact read_plane arg3 X3 9 _ inb_S15x16x128_S1x16x128_9_0_0 rfl r l
  · exact read_plane arg3 X3 10 _ inb_S15x16x128_S1x16x128_10_0_0 rfl r l
  · exact read_plane arg3 X3 11 _ inb_S15x16x128_S1x16x128_11_0_0 rfl r l
  · exact read_plane arg3 X3 12 _ inb_S15x16x128_S1x16x128_12_0_0 rfl r l
  · exact read_plane arg3 X3 13 _ inb_S15x16x128_S1x16x128_13_0_0 rfl r l
  · exact read_plane arg3 X3 14 _ inb_S15x16x128_S1x16x128_14_0_0 rfl r l

/-- The leaf numbers of a trip's sixteen rows. -/
theorem cw_apply (hn : ∀ a r l, View.read (Elt I) arg2.view X2 (ix3 a r l) = BitVec.ofNat 32 (n a l).val)
    (k : Fin k0_t1_loop.trips) (u : Fin 2) (r : Fin 16) (c : Fin 128) :
    cw arg1 X1 arg2 X2 arg3 X3 k u (ix2 r c)
      = num (leafAt (View.read (Elt I) arg1.view X1) n (View.read (Elt I) arg3.view X3) (rowOf k u r) c) := by
  unfold cw
  rw [code_apply _ _ _ n (fun a r l => (rdIdx_apply arg2 X2 a r l).trans (hn a r l))]
  unfold leafAt
  refine congrArg num (congrArg₂ leaf (funext fun l => ?_) (funext fun m => ?_))
  · rw [rdRows_apply]
  · rw [rdThr_apply]
    have : (⟨(rowOf k u r).val % 16, by omega⟩ : Fin 16) = r := Fin.ext (by show (32 * k.val + 16 * u.val + r.val) % 16 = r.val; omega)
    rw [this]

/-- A slab agrees with the one-hot block. -/
theorem slab_piece (q : Fin 512 → Fin 128 → ℕ) (w : FVec I S16x128 .bf16) (k : Fin k0_t1_loop.trips) (u : Fin 2)
    (hw : ∀ r c, w (ix2 r c) = num (q (rowOf k u r) c)) (j : ℕ) (hj : j < 16) (b : BitVec 32) (hb : b = BitVec.ofNat 32 (8 * j))
    (off : Fin 2 → ℕ) (inb : ∀ a, off a + S16x128.size a ≤ S512x2048.size a) (h : off = ![32 * k.val + 16 * u.val, 128 * j]) (x : S16x128.Idx) :
    slab b (ch 0 w) (ch 1 w) x = oneHot q ((Rect.unit (s := S512x2048) off S16x128.size inb).emb x) := by
  subst h
  obtain ⟨r, l, rfl⟩ : ∃ (r : Fin 16) (l : Fin 128), x = ix2 r l := ⟨x 0, x 1, eq_ix2 x⟩
  have he : (Rect.unit (s := S512x2048) ![32 * k.val + 16 * u.val, 128 * j] S16x128.size inb).emb (ix2 r l)
      = ix2 (rowOf k u r) ⟨128 * j + l.val, by omega⟩ := funext fun b => Fin.ext (by
    fin_cases b
    · show 32 * k.val + 16 * u.val + 1 * r.val = 32 * k.val + 16 * u.val + r.val
      omega
    · show 128 * j + 1 * l.val = 128 * j + l.val
      omega)
  rw [he, slab_apply ⟨j, hj⟩ w b hb, hw]
  unfold oneHot
  simp only [num_inj]
  have h1 : (128 * j + l.val) / 16 = 8 * j + l.val / 16 := by omega
  have h2 : (128 * j + l.val) % 16 = l.val % 16 := by omega
  show _ = if q (rowOf k u r) ⟨(128 * j + l.val) / 16, _⟩ = (128 * j + l.val) % 16 then _ else _
  simp only [h1, h2]

theorem slabs_agree (q : Fin 512 → Fin 128 → ℕ) (w : FVec I S16x128 .bf16) (k : Fin k0_t1_loop.trips) (u : Fin 2)
    (hw : ∀ r c, w (ix2 r c) = num (q (rowOf k u r) c)) :
    ∀ p ∈ slabs k u w, ∀ x : p.1.shape.Idx, p.2 x = oneHot q (p.1.emb x) := by
  intro p hp
  unfold slabs at hp
  simp only [List.mem_cons, List.not_mem_nil, or_false] at hp
  rcases hp with rfl | rfl | rfl | rfl | rfl | rfl | rfl | rfl | rfl | rfl | rfl | rfl | rfl | rfl | rfl | rfl
  · exact slab_piece q w k u hw 15 (by decide) _ rfl _ (k0_off48_inb k u) (off48 k u)
  · exact slab_piece q w k u hw 14 (by decide) _ rfl _ (k0_off47_inb k u) (off47 k u)
  · exact slab_piece q w k u hw 13 (by decide) _ rfl _ (k0_off46_inb k u) (off46 k u)
  · exact slab_piece q w k u hw 12 (by decide) _ rfl _ (k0_off45_inb k u) (off45 k u)
  · exact slab_piece q w k u hw 11 (by decide) _ rfl _ (k0_off44_inb k u) (off44 k u)
  · exact slab_piece q w k u hw 10 (by decide) _ rfl _ (k0_off43_inb k u) (off43 k u)
  · exact slab_piece q w k u hw 9 (by decide) _ rfl _ (k0_off42_inb k u) (off42 k u)
  · exact slab_piece q w k u hw 8 (by decide) _ rfl _ (k0_off41_inb k u) (off41 k u)
  · exact slab_piece q w k u hw 7 (by decide) _ rfl _ (k0_off40_inb k u) (off40 k u)
  · exact slab_piece q w k u hw 6 (by decide) _ rfl _ (k0_off39_inb k u) (off39 k u)
  · exact slab_piece q w k u hw 5 (by decide) _ rfl _ (k0_off38_inb k u) (off38 k u)
  · exact slab_piece q w k u hw 4 (by decide) _ rfl _ (k0_off37_inb k u) (off37 k u)
  · exact slab_piece q w k u hw 3 (by decide) _ rfl _ (k0_off36_inb k u) (off36 k u)
  · exact slab_piece q w k u hw 2 (by decide) _ rfl _ (k0_off35_inb k u) (off35 k u)
  · exact slab_piece q w k u hw 1 (by decide) _ rfl _ (k0_off34_inb k u) (off34 k u)
  · exact slab_piece q w k u hw 0 (by decide) _ rfl _ (k0_off33_inb k u) (off33 k u)

theorem mem_piece (k : Fin k0_t1_loop.trips) (u : Fin 2) (j : ℕ) (off : Fin 2 → ℕ) (inb : ∀ a, off a + S16x128.size a ≤ S512x2048.size a)
    (h : off = ![32 * k.val + 16 * u.val, 128 * j]) (y : S512x2048.Idx) (h0 : 32 * k.val + 16 * u.val ≤ (y 0).val ∧ (y 0).val < 32 * k.val + 16 * u.val + 16)
    (h1 : (y 1).val / 128 = j) : y ∈ (Rect.unit (s := S512x2048) off S16x128.size inb).set := by
  subst h
  rw [Rect.mem_set_unit]
  intro a
  fin_cases a
  · exact h0
  · show 128 * j ≤ (y 1).val ∧ (y 1).val < 128 * j + 128
    omega

theorem slabs_cover (w : FVec I S16x128 .bf16) (k : Fin k0_t1_loop.trips) (u : Fin 2) (y : S512x2048.Idx)
    (h0 : 32 * k.val + 16 * u.val ≤ (y 0).val ∧ (y 0).val < 32 * k.val + 16 * u.val + 16) : ∃ p ∈ slabs k u w, y ∈ p.1.set := by
  have h1 := idx2_lt1 y
  have hj : (y 1).val / 128 < 16 := by omega
  generalize hJ : (y 1).val / 128 = J at hj
  unfold slabs
  simp only [List.mem_cons, List.not_mem_nil, or_false, exists_eq_or_imp, exists_eq_left]
  interval_cases J
  · exact Or.inr (Or.inr (Or.inr (Or.inr (Or.inr (Or.inr (Or.inr (Or.inr (Or.inr (Or.inr (Or.inr (Or.inr (Or.inr (Or.inr (Or.inr (mem_piece k u 0 _ (k0_off33_inb k u) (off33 k u) y h0 hJ)))))))))))))))
  · exact Or.inr (Or.inr (Or.inr (Or.inr (Or.inr (Or.inr (Or.inr (Or.inr (Or.inr (Or.inr (Or.inr (Or.inr (Or.inr (Or.inr (Or.inl (mem_piece k u 1 _ (k0_off34_inb k u) (off34 k u) y h0 hJ)))))))))))))))
  · exact Or.inr (Or.inr (Or.inr (Or.inr (Or.inr (Or.inr (Or.inr (Or.inr (Or.inr (Or.inr (Or.inr (Or.inr (Or.inr (Or.inl (mem_piece k u 2 _ (k0_off35_inb k u) (off35 k u) y h0 hJ))))))))))))))
  · exact Or.inr (Or.inr (Or.inr (Or.inr (Or.inr (Or.inr (Or.inr (Or.inr (Or.inr (Or.inr (Or.inr (Or.inr (Or.inl (mem_piece k u 3 _ (k0_off36_inb k u) (off36 k u) y h0 hJ)))))))))))))
  · exact Or.inr (Or.inr (Or.inr (Or.inr (Or.inr (Or.inr (Or.inr (Or.inr (Or.inr (Or.inr (Or.inr (Or.inl (mem_piece k u 4 _ (k0_off37_inb k u) (off37 k u) y h0 hJ))))))))))))
  · exact Or.inr (Or.inr (Or.inr (Or.inr (Or.inr (Or.inr (Or.inr (Or.inr (Or.inr (Or.inr (Or.inl (mem_piece k u 5 _ (k0_off38_inb k u) (off38 k u) y h0 hJ)))))))))))
  · exact Or.inr (Or.inr (Or.inr (Or.inr (Or.inr (Or.inr (Or.inr (Or.inr (Or.inr (Or.inl (mem_piece k u 6 _ (k0_off39_inb k u) (off39 k u) y h0 hJ))))))))))
  · exact Or.inr (Or.inr (Or.inr (Or.inr (Or.inr (Or.inr (Or.inr (Or.inr (Or.inl (mem_piece k u 7 _ (k0_off40_inb k u) (off40 k u) y h0 hJ)))))))))
  · exact Or.inr (Or.inr (Or.inr (Or.inr (Or.inr (Or.inr (Or.inr (Or.inl (mem_piece k u 8 _ (k0_off41_inb k u) (off41 k u) y h0 hJ))))))))
  · exact Or.inr (Or.inr (Or.inr (Or.inr (Or.inr (Or.inr (Or.inl (mem_piece k u 9 _ (k0_off42_inb k u) (off42 k u) y h0 hJ)))))))
  · exact Or.inr (Or.inr (Or.inr (Or.inr (Or.inr (Or.inl (mem_piece k u 10 _ (k0_off43_inb k u) (off43 k u) y h0 hJ))))))
  · exact Or.inr (Or.inr (Or.inr (Or.inr (Or.inl (mem_piece k u 11 _ (k0_off44_inb k u) (off44 k u) y h0 hJ)))))
  · exact Or.inr (Or.inr (Or.inr (Or.inl (mem_piece k u 12 _ (k0_off45_inb k u) (off45 k u) y h0 hJ))))
  · exact Or.inr (Or.inr (Or.inl (mem_piece k u 13 _ (k0_off46_inb k u) (off46 k u) y h0 hJ)))
  · exact Or.inr (Or.inl (mem_piece k u 14 _ (k0_off47_inb k u) (off47 k u) y h0 hJ))
  · exact Or.inl (mem_piece k u 15 _ (k0_off48_inb k u) (off48 k u) y h0 hJ)

variable (𝒱 : Variants) (c : Dev nD) (bd : Option 𝒱.V) (i : grid0.Coords) (harg1 : arg1.IsWhole) (harg2 : arg2.IsWhole) (harg3 : arg3.IsWhole)
  (arg4 : Memref sig .tc .vmem S2048x128 .bf16) (harg4 : arg4.IsWhole) (arg5 : Memref sig .tc .vmem S2048x11008 .i8) (harg5 : arg5.IsWhole)
  (arg6 : Memref sig .tc .vmem S512x11008 .bf16) (harg6 : arg6.IsWhole) (arg7 : Memref sig .tc .vmem S512x64 .i8) (harg7 : arg7.IsWhole)
  (arg8 : Memref sig .tc .vmem S512x2048 .bf16) (harg8 : arg8.IsWhole)

/-- The block's leaves. -/
def leafs : Fin 512 → Fin 128 → ℕ := leafAt (View.read (Elt I) arg1.view X1) n (View.read (Elt I) arg3.view X3)

theorem oh_succ (k : Fin k0_t1_loop.trips) : (pb_k0_t1 (F := I) 𝒱 c bd i arg1 harg1 arg2 harg2 arg3 harg3 arg4 harg4 arg5 harg5 arg6 harg6 arg7 harg7 arg8 harg8 lane X1 X2 X3 (k.val + 1)).2
    = (slabs k 1 (cw arg1 X1 arg2 X2 arg3 X3 k 1) ++ slabs k 0 (cw arg1 X1 arg2 X2 arg3 X3 k 0)) ++ (pb_k0_t1 (F := I) 𝒱 c bd i arg1 harg1 arg2 harg2 arg3 harg3 arg4 harg4 arg5 harg5 arg6 harg6 arg7 harg7 arg8 harg8 lane X1 X2 X3 k.val).2 := by
  rw [pb_k0_t1_succ]
  unfold tripL_k0_t1
  rw [trip_oh]

theorem codes_succ (k : Fin k0_t1_loop.trips) : (pb_k0_t1 (F := I) 𝒱 c bd i arg1 harg1 arg2 harg2 arg3 harg3 arg4 harg4 arg5 harg5 arg6 harg6 arg7 harg7 arg8 harg8 lane X1 X2 X3 (k.val + 1)).1
    = [⟨Rect.unit (s := S512x64) (k0_off49 k) S32x64.size (k0_off49_inb k), stored (packed (ch 0 (cw arg1 X1 arg2 X2 arg3 X3 k 0)) (ch 1 (cw arg1 X1 arg2 X2 arg3 X3 k 0))) (packed (ch 0 (cw arg1 X1 arg2 X2 arg3 X3 k 1)) (ch 1 (cw arg1 X1 arg2 X2 arg3 X3 k 1)))⟩] ++ (pb_k0_t1 (F := I) 𝒱 c bd i arg1 harg1 arg2 harg2 arg3 harg3 arg4 harg4 arg5 harg5 arg6 harg6 arg7 harg7 arg8 harg8 lane X1 X2 X3 k.val).1 := by
  rw [pb_k0_t1_succ]
  unfold tripL_k0_t1
  exact congrArg (fun L => L ++ (pb_k0_t1 (F := I) 𝒱 c bd i arg1 harg1 arg2 harg2 arg3 harg3 arg4 harg4 arg5 harg5 arg6 harg6 arg7 harg7 arg8 harg8 lane X1 X2 X3 k.val).1) (trip_codes arg1 X1 arg2 X2 arg3 X3 k 𝒱 c bd i harg1 harg2 harg3 arg4 harg4 arg5 harg5 arg6 harg6 arg7 harg7 arg8 harg8)

theorem oh_agree (hn : ∀ a r l, View.read (Elt I) arg2.view X2 (ix3 a r l) = BitVec.ofNat 32 (n a l).val) :
    ∀ t : ℕ, t ≤ k0_t1_loop.trips → ∀ p ∈ (pb_k0_t1 (F := I) 𝒱 c bd i arg1 harg1 arg2 harg2 arg3 harg3 arg4 harg4 arg5 harg5 arg6 harg6 arg7 harg7 arg8 harg8 lane X1 X2 X3 t).2, ∀ x : p.1.shape.Idx, p.2 x = oneHot (leafs arg1 X1 arg3 X3 n) (p.1.emb x)
  | 0, _ => fun p hp => absurd hp List.not_mem_nil
  | t + 1, ht => by
    intro p hp
    rw [oh_succ arg1 X1 arg2 X2 arg3 X3 𝒱 c bd i harg1 harg2 harg3 arg4 harg4 arg5 harg5 arg6 harg6 arg7 harg7 arg8 harg8 ⟨t, ht⟩] at hp
    rcases List.mem_append.mp hp with hp | hp
    · rcases List.mem_append.mp hp with hp | hp
      · exact slabs_agree _ _ ⟨t, ht⟩ 1 (fun r c => cw_apply arg1 X1 arg2 X2 arg3 X3 n hn ⟨t, ht⟩ 1 r c) p hp
      · exact slabs_agree _ _ ⟨t, ht⟩ 0 (fun r c => cw_apply arg1 X1 arg2 X2 arg3 X3 n hn ⟨t, ht⟩ 0 r c) p hp
    · exact oh_agree hn t (Nat.le_of_succ_le ht) p hp

theorem oh_cover : ∀ t : ℕ, t ≤ k0_t1_loop.trips → ∀ y : S512x2048.Idx, (y 0).val < 32 * t → ∃ p ∈ (pb_k0_t1 (F := I) 𝒱 c bd i arg1 harg1 arg2 harg2 arg3 harg3 arg4 harg4 arg5 harg5 arg6 harg6 arg7 harg7 arg8 harg8 lane X1 X2 X3 t).2, y ∈ p.1.set
  | 0, _ => fun y hy => absurd hy (Nat.not_lt_zero _)
  | t + 1, ht => by
    intro y hy
    rw [oh_succ arg1 X1 arg2 X2 arg3 X3 𝒱 c bd i harg1 harg2 harg3 arg4 harg4 arg5 harg5 arg6 harg6 arg7 harg7 arg8 harg8 ⟨t, ht⟩]
    by_cases h : (y 0).val < 32 * t
    · obtain ⟨p, hp, hy⟩ := oh_cover t (Nat.le_of_succ_le ht) y h
      exact ⟨p, List.mem_append_right _ hp, hy⟩
    · by_cases h' : (y 0).val < 32 * t + 16
      · obtain ⟨p, hp, hy⟩ := slabs_cover (cw arg1 X1 arg2 X2 arg3 X3 ⟨t, ht⟩ 0) ⟨t, ht⟩ 0 y ⟨by show 32 * t + 16 * 0 ≤ _; omega, by show _ < 32 * t + 16 * 0 + 16; omega⟩
        exact ⟨p, List.mem_append_left _ (List.mem_append_right _ hp), hy⟩
      · obtain ⟨p, hp, hy⟩ := slabs_cover (cw arg1 X1 arg2 X2 arg3 X3 ⟨t, ht⟩ 1) ⟨t, ht⟩ 1 y ⟨by show 32 * t + 16 * 1 ≤ _; omega, by show _ < 32 * t + 16 * 1 + 16; omega⟩
        exact ⟨p, List.mem_append_left _ (List.mem_append_left _ hp), hy⟩

/-- After the loop the scratch reads as the one-hot block, whatever it held. -/
theorem oh_read (hn : ∀ a r l, View.read (Elt I) arg2.view X2 (ix3 a r l) = BitVec.ofNat 32 (n a l).val) (f : BufTy.Contents (Elt I) arg8.view.ty) :
    View.read (Elt I) arg8.view (arg8.view.writes (Elt I) f (pb_k0_t1 (F := I) 𝒱 c bd i arg1 harg1 arg2 harg2 arg3 harg3 arg4 harg4 arg5 harg5 arg6 harg6 arg7 harg7 arg8 harg8 lane X1 X2 X3 k0_t1_loop.trips).2) = oneHot (leafs arg1 X1 arg3 X3 n) := by
  funext y
  have hy : (y 0).val < 512 := idx2_lt0 y
  exact View.read_writes_apply_of_pieces _ _ _ _ (oh_agree arg1 X1 arg2 X2 arg3 X3 n 𝒱 c bd i harg1 harg2 harg3 arg4 harg4 arg5 harg5 arg6 harg6 arg7 harg7 arg8 harg8 hn _ le_rfl) y
    (oh_cover arg1 X1 arg2 X2 arg3 X3 𝒱 c bd i harg1 harg2 harg3 arg4 harg4 arg5 harg5 arg6 harg6 arg7 harg7 arg8 harg8 _ le_rfl y (by rw [trips_eq]; omega))

theorem stored_left (p0 p1 : IVec S16x128 32) (r : Fin 16) (l : Fin 64) :
    stored p0 p1 (ix2 ⟨r.val, by omega⟩ l) = (p0 (ix2 r ⟨l.val, by omega⟩)).setWidth 8 := by
  show BitVec.setWidth 8 (concatenate S32x128 0 [⟨S16x128, p0⟩, ⟨S16x128, p1⟩] concatenates_S16x128_S16x128_S32x128_d0 _) = _
  refine congrArg _ (concatenate_pair_apply_left (t := S32x128) 0 p0 p1 _ _ rfl (ix2 r ⟨l.val, by omega⟩) fun b => ?_)
  fin_cases b
  · show r.val = 0 + r.val; omega
  · show l.val = 0 + l.val; omega

theorem stored_right (p0 p1 : IVec S16x128 32) (r : Fin 16) (l : Fin 64) :
    stored p0 p1 (ix2 ⟨16 + r.val, by omega⟩ l) = (p1 (ix2 r ⟨l.val, by omega⟩)).setWidth 8 := by
  show BitVec.setWidth 8 (concatenate S32x128 0 [⟨S16x128, p0⟩, ⟨S16x128, p1⟩] concatenates_S16x128_S16x128_S32x128_d0 _) = _
  refine congrArg _ (concatenate_pair_apply_right (t := S32x128) 0 p0 p1 _ _ rfl rfl (ix2 r ⟨l.val, by omega⟩) (fun b hb => ?_) ?_)
  · fin_cases b
    · exact absurd rfl hb
    · show l.val = 0 + l.val; omega
  · show r.val + 16 = 0 + (16 + r.val); omega

/-- A trip's packed codes agree with the block's. -/
theorem stored_piece (q : Fin 512 → Fin 128 → ℕ) (hq : ∀ R c, q R c < 16) (w : Fin 2 → FVec I S16x128 .bf16) (k : Fin k0_t1_loop.trips)
    (hw : ∀ u r c, w u (ix2 r c) = num (q (rowOf k u r) c))
    (off : Fin 2 → ℕ) (inb : ∀ a, off a + S32x64.size a ≤ S512x64.size a) (h : off = ![32 * k.val, 0]) (x : S32x64.Idx) :
    stored (packed (ch 0 (w 0)) (ch 1 (w 0))) (packed (ch 0 (w 1)) (ch 1 (w 1))) x
      = pack q ((Rect.unit (s := S512x64) off S32x64.size inb).emb x) := by
  subst h
  obtain ⟨r, l, rfl⟩ : ∃ (r : Fin 32) (l : Fin 64), x = ix2 r l := ⟨x 0, x 1, eq_ix2 x⟩
  have hk : k.val < 16 := Nat.lt_of_lt_of_le k.isLt (Nat.le_of_eq trips_eq)
  have he : (Rect.unit (s := S512x64) ![32 * k.val, 0] S32x64.size inb).emb (ix2 r l)
      = ix2 ⟨32 * k.val + r.val, by omega⟩ l := funext fun b => Fin.ext (by
    fin_cases b
    · show 32 * k.val + 1 * r.val = 32 * k.val + r.val
      omega
    · show 0 + 1 * l.val = l.val
      omega)
  have hp : ∀ (u : Fin 2) (s : Fin 16), (packed (ch 0 (w u)) (ch 1 (w u)) (ix2 s ⟨l.val, by omega⟩)).setWidth 8
      = BitVec.ofNat 8 (q (rowOf k u s) ⟨2 * l.val, by omega⟩ + 16 * q (rowOf k u s) ⟨2 * l.val + 1, by omega⟩) := by
    intro u s
    rw [packed_apply (w u) (fun c => q (rowOf k u s) c) s (fun c => hq _ c) (fun c => hw u s c) l, BitVec.setWidth_ofNat_of_le (by decide)]
  rw [he]
  by_cases hr : r.val < 16
  · have e := (stored_left (packed (ch 0 (w 0)) (ch 1 (w 0))) (packed (ch 0 (w 1)) (ch 1 (w 1))) ⟨r.val, hr⟩ l).trans (hp 0 _)
    refine e.trans ?_
    have hR : rowOf k 0 ⟨r.val, hr⟩ = ⟨32 * k.val + r.val, by omega⟩ := Fin.ext (by show 32 * k.val + 16 * 0 + r.val = 32 * k.val + r.val; omega)
    rw [hR]; rfl
  · have e := (stored_right (packed (ch 0 (w 0)) (ch 1 (w 0))) (packed (ch 0 (w 1)) (ch 1 (w 1))) ⟨r.val - 16, by omega⟩ l).trans (hp 1 _)
    have hr' : (⟨16 + (r.val - 16), by omega⟩ : Fin 32) = r := Fin.ext (by show 16 + (r.val - 16) = r.val; omega)
    have hR : rowOf k 1 ⟨r.val - 16, by omega⟩ = ⟨32 * k.val + r.val, by omega⟩ := Fin.ext (by show 32 * k.val + 16 * 1 + (r.val - 16) = 32 * k.val + r.val; omega)
    rw [hR] at e
    rw [← hr']
    refine e.trans ?_
    rw [hr']; rfl

theorem leafs_lt (R : Fin 512) (c : Fin 128) : leafs arg1 X1 arg3 X3 n R c < 16 := by
  unfold leafs leafAt
  exact leaf_lt _ _

theorem codes_agree (hn : ∀ a r l, View.read (Elt I) arg2.view X2 (ix3 a r l) = BitVec.ofNat 32 (n a l).val) :
    ∀ t : ℕ, t ≤ k0_t1_loop.trips → ∀ p ∈ (pb_k0_t1 (F := I) 𝒱 c bd i arg1 harg1 arg2 harg2 arg3 harg3 arg4 harg4 arg5 harg5 arg6 harg6 arg7 harg7 arg8 harg8 lane X1 X2 X3 t).1, ∀ x : p.1.shape.Idx, p.2 x = pack (leafs arg1 X1 arg3 X3 n) (p.1.emb x)
  | 0, _ => fun p hp => absurd hp List.not_mem_nil
  | t + 1, ht => by
    intro p hp
    rw [codes_succ arg1 X1 arg2 X2 arg3 X3 𝒱 c bd i harg1 harg2 harg3 arg4 harg4 arg5 harg5 arg6 harg6 arg7 harg7 arg8 harg8 ⟨t, ht⟩] at hp
    rcases List.mem_append.mp hp with hp | hp
    · obtain rfl := List.mem_singleton.mp hp
      exact stored_piece _ (leafs_lt arg1 X1 arg3 X3 n) (fun u => cw arg1 X1 arg2 X2 arg3 X3 ⟨t, ht⟩ u) ⟨t, ht⟩ (fun u r c => cw_apply arg1 X1 arg2 X2 arg3 X3 n hn ⟨t, ht⟩ u r c) _ (k0_off49_inb ⟨t, ht⟩) (off49 _)
    · exact codes_agree hn t (Nat.le_of_succ_le ht) p hp

theorem codes_cover : ∀ t : ℕ, t ≤ k0_t1_loop.trips → ∀ y : S512x64.Idx, (y 0).val < 32 * t → ∃ p ∈ (pb_k0_t1 (F := I) 𝒱 c bd i arg1 harg1 arg2 harg2 arg3 harg3 arg4 harg4 arg5 harg5 arg6 harg6 arg7 harg7 arg8 harg8 lane X1 X2 X3 t).1, y ∈ p.1.set
  | 0, _ => fun y hy => absurd hy (Nat.not_lt_zero _)
  | t + 1, ht => by
    intro y hy
    rw [codes_succ arg1 X1 arg2 X2 arg3 X3 𝒱 c bd i harg1 harg2 harg3 arg4 harg4 arg5 harg5 arg6 harg6 arg7 harg7 arg8 harg8 ⟨t, ht⟩]
    by_cases h : (y 0).val < 32 * t
    · obtain ⟨p, hp, hy⟩ := codes_cover t (Nat.le_of_succ_le ht) y h
      exact ⟨p, List.mem_append_right _ hp, hy⟩
    · refine ⟨_, List.mem_append_left _ (List.mem_singleton.mpr rfl), ?_⟩
      rw [Rect.mem_set_unit, off49]
      have h1 : (y 1).val < 64 := idx2_lt1 y
      intro a
      fin_cases a
      · show 32 * t ≤ (y 0).val ∧ (y 0).val < 32 * t + 32
        omega
      · show 0 ≤ (y 1).val ∧ (y 1).val < 0 + 64
        omega

/-- After the loop the codes' buffer reads as the packed codes, whatever it held. -/
theorem codes_read (hn : ∀ a r l, View.read (Elt I) arg2.view X2 (ix3 a r l) = BitVec.ofNat 32 (n a l).val)
    {sig' : RefSig} {κ' : Kind} {sp' : Space} (v : View sig' κ' sp' S512x64 .i8) (f : v.ty.Contents (Elt I)) :
    v.read (Elt I) (v.writes (Elt I) f (pb_k0_t1 (F := I) 𝒱 c bd i arg1 harg1 arg2 harg2 arg3 harg3 arg4 harg4 arg5 harg5 arg6 harg6 arg7 harg7 arg8 harg8 lane X1 X2 X3 k0_t1_loop.trips).1) = pack (leafs arg1 X1 arg3 X3 n) := by
  funext y
  have hy : (y 0).val < 512 := idx2_lt0 y
  exact View.read_writes_apply_of_pieces _ _ _ _ (codes_agree arg1 X1 arg2 X2 arg3 X3 n 𝒱 c bd i harg1 harg2 harg3 arg4 harg4 arg5 harg5 arg6 harg6 arg7 harg7 arg8 harg8 hn _ le_rfl) y
    (codes_cover arg1 X1 arg2 X2 arg3 X3 𝒱 c bd i harg1 harg2 harg3 arg4 harg4 arg5 harg5 arg6 harg6 arg7 harg7 arg8 harg8 _ le_rfl y (by rw [trips_eq]; omega))

end Cert.KernelIdeal.Hash
-- ==== Proof.Block.lean ====
module

public import proofs.«01_k».proof.Proof.Loop
public import proofs.«01_k».proof.Proof.Gen.KernelIdeal.Value
public import Idealize.ShloMosaic.Lib.MatmulPlain
public import Idealize.ShloMosaic.Lib.VecWindow

/-! What one grid point writes: the products of its one-hot block with the table, and its packed codes. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness

section Products

variable {F : FTy → Type} [FloatOps F]

/-- One chunk of the table: the codes times their scales. -/
def entry (s : Vec F S2048x128 .bf16) (w : Vec F S2048x128 .i8) : FVec F S2048x128 .bf16 :=
  mulf (sitofp .bf16 (shapeCast S2048x128 w shapeCasts_S2048x128_S2048x128)) (shapeCast S2048x128 s shapeCasts_S2048x128_S2048x128)

/-- The product of the one-hot block with eight chunks of the table. -/
def prod8 (oh : Vec F S512x2048 .bf16) (p : Fin 8 → FVec F S2048x128 .bf16) : FVec F S512x1024 .bf16 :=
  truncf .bf16 (matmul dot_S512x2048_S2048x1024_S512x1024_1_0_0_1_n_n none oh
    (concatenate S2048x1024 1 [⟨S2048x128, p 0⟩, ⟨S2048x128, p 1⟩, ⟨S2048x128, p 2⟩, ⟨S2048x128, p 3⟩, ⟨S2048x128, p 4⟩, ⟨S2048x128, p 5⟩, ⟨S2048x128, p 6⟩, ⟨S2048x128, p 7⟩]
      concatenates_S2048x128_S2048x128_S2048x128_S2048x128_S2048x128_S2048x128_S2048x128_S2048x128_S2048x1024_d1)
    (constant S512x1024 .f32 0x00000000#32)) bitsLt_bf16_f32

/-- The product of the one-hot block with six chunks of the table. -/
def prod6 (oh : Vec F S512x2048 .bf16) (p : Fin 6 → FVec F S2048x128 .bf16) : FVec F S512x768 .bf16 :=
  truncf .bf16 (matmul dot_S512x2048_S2048x768_S512x768_1_0_0_1_n_n none oh
    (concatenate S2048x768 1 [⟨S2048x128, p 0⟩, ⟨S2048x128, p 1⟩, ⟨S2048x128, p 2⟩, ⟨S2048x128, p 3⟩, ⟨S2048x128, p 4⟩, ⟨S2048x128, p 5⟩]
      concatenates_S2048x128_S2048x128_S2048x128_S2048x128_S2048x128_S2048x128_S2048x768_d1)
    (constant S512x768 .f32 0x00000000#32)) bitsLt_bf16_f32

/-- Chunk `j` of group `b` of the codes of the table. -/
def chunk (arg5 : Memref sig .tc .vmem S2048x11008 .i8) (X5 : BufTy.Contents (Elt F) arg5.view.ty) (b j : ℕ) (h : 1024 * b + 128 * j + 128 ≤ 11008) :
    Vec F S2048x128 .i8 :=
  View.readAt (Elt F) arg5.view (Rect.unit (s := S2048x11008) ![0, 1024 * b + 128 * j] S2048x128.size (by
    intro a
    fin_cases a
    · show 0 + 2048 ≤ 2048; omega
    · show 1024 * b + 128 * j + 128 ≤ 11008; omega)).toLoadRect X5

/-- The scales. -/
def wholeScale (arg4 : Memref sig .tc .vmem S2048x128 .bf16) (X4 : BufTy.Contents (Elt F) arg4.view.ty) : Vec F S2048x128 .bf16 :=
  View.readAt (Elt F) arg4.view (Rect.unit (s := S2048x128) ![0, 0] S2048x128.size inb_S2048x128_S2048x128_0_0).toLoadRect X4

variable (c : Dev nD) (i : grid0.Coords)
  (arg1 : Memref sig .tc .vmem S512x4096 .bf16) (harg1 : arg1.IsWhole)
  (arg2 : Memref sig .tc .vmem S4x8x128 .i32) (harg2 : arg2.IsWhole)
  (arg3 : Memref sig .tc .vmem S15x16x128 .bf16) (harg3 : arg3.IsWhole)
  (arg4 : Memref sig .tc .vmem S2048x128 .bf16) (harg4 : arg4.IsWhole) (arg5 : Memref sig .tc .vmem S2048x11008 .i8) (harg5 : arg5.IsWhole)
  (arg6 : Memref sig .tc .vmem S512x11008 .bf16) (harg6 : arg6.IsWhole) (arg7 : Memref sig .tc .vmem S512x64 .i8) (harg7 : arg7.IsWhole)
  (arg8 : Memref sig .tc .vmem S512x2048 .bf16) (harg8 : arg8.IsWhole)
  (x0 : Vec F S512x4096 .bf16) (x1 : Vec F S4x8x128 .i32) (x2 : Vec F S15x16x128 .bf16) (x3 : Vec F S2048x128 .bf16) (x4 : Vec F S2048x11008 .i8)

/-- The one-hot block as the products read it. -/
def ohRead : Vec F S512x2048 .bf16 :=
  arg8.view.readCov (pb_k0_t1 Variants.none c none i arg1 harg1 arg2 harg2 arg3 harg3 arg4 harg4 arg5 harg5 arg6 harg6 arg7 harg7 arg8 harg8 lane (harg1.unread x0) (harg2.unread x1) (harg3.unread x2) k0_t1_loop.trips).2
    (Rect.unit (s := S512x2048) ![0, 0] S512x2048.size inb_S512x2048_S512x2048_0_0).toLoadRect

/-- The pieces of the products' block, over any one-hot block `oh`. -/
def products (oh : Vec F S512x2048 .bf16) : List (View.Piece (Elt F) S512x11008 .bf16) :=
  [⟨Rect.unit ![0, 10240] ![512, 768] inb_S512x11008_S512x768_0_10240, prod6 oh (fun j => entry (wholeScale arg4 (harg4.unread x3)) (chunk arg5 (harg5.unread x4) 10 j (by omega)))⟩,
    ⟨Rect.unit ![0, 9216] S512x1024.size inb_S512x11008_S512x1024_0_9216, prod8 oh (fun j => entry (wholeScale arg4 (harg4.unread x3)) (chunk arg5 (harg5.unread x4) 9 j (by omega)))⟩,
    ⟨Rect.unit ![0, 8192] S512x1024.size inb_S512x11008_S512x1024_0_8192, prod8 oh (fun j => entry (wholeScale arg4 (harg4.unread x3)) (chunk arg5 (harg5.unread x4) 8 j (by omega)))⟩,
    ⟨Rect.unit ![0, 7168] S512x1024.size inb_S512x11008_S512x1024_0_7168, prod8 oh (fun j => entry (wholeScale arg4 (harg4.unread x3)) (chunk arg5 (harg5.unread x4) 7 j (by omega)))⟩,
    ⟨Rect.unit ![0, 6144] S512x1024.size inb_S512x11008_S512x1024_0_6144, prod8 oh (fun j => entry (wholeScale arg4 (harg4.unread x3)) (chunk arg5 (harg5.unread x4) 6 j (by omega)))⟩,
    ⟨Rect.unit ![0, 5120] S512x1024.size inb_S512x11008_S512x1024_0_5120, prod8 oh (fun j => entry (wholeScale arg4 (harg4.unread x3)) (chunk arg5 (harg5.unread x4) 5 j (by omega)))⟩,
    ⟨Rect.unit ![0, 4096] S512x1024.size inb_S512x11008_S512x1024_0_4096, prod8 oh (fun j => entry (wholeScale arg4 (harg4.unread x3)) (chunk arg5 (harg5.unread x4) 4 j (by omega)))⟩,
    ⟨Rect.unit ![0, 3072] S512x1024.size inb_S512x11008_S512x1024_0_3072, prod8 oh (fun j => entry (wholeScale arg4 (harg4.unread x3)) (chunk arg5 (harg5.unread x4) 3 j (by omega)))⟩,
    ⟨Rect.unit ![0, 2048] S512x1024.size inb_S512x11008_S512x1024_0_2048, prod8 oh (fun j => entry (wholeScale arg4 (harg4.unread x3)) (chunk arg5 (harg5.unread x4) 2 j (by omega)))⟩,
    ⟨Rect.unit ![0, 1024] S512x1024.size inb_S512x11008_S512x1024_0_1024, prod8 oh (fun j => entry (wholeScale arg4 (harg4.unread x3)) (chunk arg5 (harg5.unread x4) 1 j (by omega)))⟩,
    ⟨Rect.unit ![0, 0] S512x1024.size inb_S512x11008_S512x1024_0_0, prod8 oh (fun j => entry (wholeScale arg4 (harg4.unread x3)) (chunk arg5 (harg5.unread x4) 0 j (by omega)))⟩]

theorem y_pieces : (kernelRun0_A c i arg1 harg1 arg2 harg2 arg3 harg3 arg4 harg4 arg5 harg5 arg6 harg6 arg7 harg7 arg8 harg8 x0 x1 x2 x3 x4).1
    = products arg4 harg4 arg5 harg5 x3 x4 (ohRead c i arg1 harg1 arg2 harg2 arg3 harg3 arg4 harg4 arg5 harg5 arg6 harg6 arg7 harg7 arg8 harg8 x0 x1 x2) := rfl

theorem codes_pieces : (kernelRun0_A c i arg1 harg1 arg2 harg2 arg3 harg3 arg4 harg4 arg5 harg5 arg6 harg6 arg7 harg7 arg8 harg8 x0 x1 x2 x3 x4).2.1
    = (pb_k0_t1 Variants.none c none i arg1 harg1 arg2 harg2 arg3 harg3 arg4 harg4 arg5 harg5 arg6 harg6 arg7 harg7 arg8 harg8 lane (harg1.unread x0) (harg2.unread x1) (harg3.unread x2) k0_t1_loop.trips).1 := rfl

end Products

end Cert.KernelIdeal.Hash
-- ==== Proof.BlockValue.lean ====
module

public import proofs.«01_k».proof.Proof.Block

/-! The two blocks a grid point writes, element by element. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness
open scoped BigOperators

local notation "I" => ShloMosaic.Ideal

/-- Row `r` of the one-hot block times column `d` of the table: codes `lut`, scales `s`. -/
def rowTimes (oh : Vec I S512x2048 .bf16) (s : Vec I S2048x128 .bf16) (lut : Vec I S2048x11008 .i8) (r : Fin 512) (d : Fin 11008) : EReal :=
  ∑ k : Fin 2048, oh (ix2 r k) * ((((lut (ix2 k d)).toInt : ℝ) : EReal) * s (ix2 k ⟨d.val % 128, by omega⟩))

theorem entry_apply (s : Vec I S2048x128 .bf16) (w : Vec I S2048x128 .i8) (k : Fin 2048) (l : Fin 128) :
    entry (F := I) s w (ix2 k l) = (((w (ix2 k l)).toInt : ℝ) : EReal) * s (ix2 k l) := by
  unfold entry
  rw [shapeCast_self, shapeCast_self]
  rfl

theorem prod8_apply (oh : Vec I S512x2048 .bf16) (p : Fin 8 → FVec I S2048x128 .bf16) (r : Fin 512) (d : Fin 1024) :
    prod8 (F := I) oh p (ix2 r d) = ∑ k : Fin 2048, oh (ix2 r k) * p ⟨d.val / 128, by omega⟩ (ix2 k ⟨d.val % 128, by omega⟩) := by
  refine (Ideal.matmul_plain_apply (φ₁ := .bf16) (φ₂ := .bf16) (M := 512) (K := 2048) (N := 1024) none oh _ _ r d).trans ?_
  rw [show constant (F := I) S512x1024 .f32 0x00000000#32 (ix2 r d) = (0 : EReal) from Ideal.ofBits_zero_f32, zero_add]
  refine Finset.sum_congr rfl fun k _ => congrArg (oh (ix2 r k) * ·) ?_
  refine concatenate_ofFn_apply (t := S2048x1024) (s₁ := S2048x128) (1 : Fin 2) p _ rfl 128 rfl (ix2 k d) ⟨d.val / 128, by omega⟩ rfl
    (ix2 k ⟨d.val % 128, by omega⟩) rfl ?_
  intro b hb
  fin_cases b
  · rfl
  · exact absurd rfl hb

theorem prod6_apply (oh : Vec I S512x2048 .bf16) (p : Fin 6 → FVec I S2048x128 .bf16) (r : Fin 512) (d : Fin 768) :
    prod6 (F := I) oh p (ix2 r d) = ∑ k : Fin 2048, oh (ix2 r k) * p ⟨d.val / 128, by omega⟩ (ix2 k ⟨d.val % 128, by omega⟩) := by
  refine (Ideal.matmul_plain_apply (φ₁ := .bf16) (φ₂ := .bf16) (M := 512) (K := 2048) (N := 768) none oh _ _ r d).trans ?_
  rw [show constant (F := I) S512x768 .f32 0x00000000#32 (ix2 r d) = (0 : EReal) from Ideal.ofBits_zero_f32, zero_add]
  refine Finset.sum_congr rfl fun k _ => congrArg (oh (ix2 r k) * ·) ?_
  refine concatenate_ofFn_apply (t := S2048x768) (s₁ := S2048x128) (1 : Fin 2) p _ rfl 128 rfl (ix2 k d) ⟨d.val / 128, by omega⟩ rfl
    (ix2 k ⟨d.val % 128, by omega⟩) rfl ?_
  intro b hb
  fin_cases b
  · rfl
  · exact absurd rfl hb

variable (c : Dev nD) (i : grid0.Coords)
  (arg1 : Memref sig .tc .vmem S512x4096 .bf16) (harg1 : arg1.IsWhole)
  (arg2 : Memref sig .tc .vmem S4x8x128 .i32) (harg2 : arg2.IsWhole)
  (arg3 : Memref sig .tc .vmem S15x16x128 .bf16) (harg3 : arg3.IsWhole)
  (arg4 : Memref sig .tc .vmem S2048x128 .bf16) (harg4 : arg4.IsWhole) (arg5 : Memref sig .tc .vmem S2048x11008 .i8) (harg5 : arg5.IsWhole)
  (arg6 : Memref sig .tc .vmem S512x11008 .bf16) (harg6 : arg6.IsWhole) (arg7 : Memref sig .tc .vmem S512x64 .i8) (harg7 : arg7.IsWhole)
  (arg8 : Memref sig .tc .vmem S512x2048 .bf16) (harg8 : arg8.IsWhole)
  (x0 : Vec I S512x4096 .bf16) (x1 : Vec I S4x8x128 .i32) (x2 : Vec I S15x16x128 .bf16) (x3 : Vec I S2048x128 .bf16) (x4 : Vec I S2048x11008 .i8)
  (n : Fin 4 → Fin 128 → Fin 128)

theorem chunk_apply (b j : ℕ) (h : 1024 * b + 128 * j + 128 ≤ 11008) (k : Fin 2048) (l : Fin 128) :
    chunk (F := I) arg5 (harg5.unread x4) b j h (ix2 k l) = x4 (ix2 k ⟨1024 * b + 128 * j + l.val, by omega⟩) := by
  unfold chunk
  rw [View.readAt_apply, harg5.read_unread]
  refine congrArg _ (funext fun a => Fin.ext ?_)
  fin_cases a
  · show 0 + 1 * k.val = k.val
    omega
  · show 1024 * b + 128 * j + 1 * l.val = 1024 * b + 128 * j + l.val
    omega

theorem wholeScale_eq : wholeScale (F := I) arg4 (harg4.unread x3) = x3 := by
  unfold wholeScale
  exact (View.readAt_full arg4.view _ _).trans (harg4.read_unread _)

theorem term_eq (oh : Vec I S512x2048 .bf16) (b : ℕ) (r : Fin 512) (d : ℕ) (h : 1024 * b + 128 * (d / 128) + 128 ≤ 11008) (e : Fin 11008) (he : e.val = 1024 * b + d) (k : Fin 2048) :
    oh (ix2 r k) * entry (F := I) (wholeScale arg4 (harg4.unread x3)) (chunk arg5 (harg5.unread x4) b (d / 128) h) (ix2 k ⟨d % 128, by omega⟩)
      = oh (ix2 r k) * ((((x4 (ix2 k e)).toInt : ℝ) : EReal) * x3 (ix2 k ⟨e.val % 128, by omega⟩)) := by
  rw [entry_apply, chunk_apply, wholeScale_eq]
  have h1 : (⟨1024 * b + 128 * (d / 128) + (⟨d % 128, by omega⟩ : Fin 128).val, by show 1024 * b + 128 * (d / 128) + d % 128 < 11008; omega⟩ : Fin 11008) = e :=
    Fin.ext (by show 1024 * b + 128 * (d / 128) + d % 128 = e.val; omega)
  have h2 : (⟨d % 128, by omega⟩ : Fin 128) = ⟨e.val % 128, by omega⟩ := Fin.ext (by show d % 128 = e.val % 128; omega)
  rw [h1, h2]

theorem piece8 (oh : Vec I S512x2048 .bf16) (b : ℕ) (hb : b < 10) (off : Fin 2 → ℕ) (inb : ∀ a, off a + S512x1024.size a ≤ S512x11008.size a) (ho : off = ![0, 1024 * b])
    (x : S512x1024.Idx) :
    prod8 (F := I) oh (fun j => entry (wholeScale arg4 (harg4.unread x3)) (chunk arg5 (harg5.unread x4) b j (by omega))) x
      = rowTimes oh x3 x4 ((Rect.unit (s := S512x11008) off S512x1024.size inb).emb x 0) ((Rect.unit (s := S512x11008) off S512x1024.size inb).emb x 1) := by
  subst ho
  obtain ⟨r, d, rfl⟩ : ∃ r d, x = ix2 r d := ⟨x 0, x 1, eq_ix2 x⟩
  rw [prod8_apply]
  have h0 : (Rect.unit (s := S512x11008) ![0, 1024 * b] S512x1024.size inb).emb (ix2 r d) 0 = r := Fin.ext (by
    show 0 + 1 * r.val = r.val; omega)
  rw [h0]
  exact Finset.sum_congr rfl fun k _ => term_eq arg4 harg4 arg5 harg5 x3 x4 oh b r d.val (by omega) _ (by
    show 1024 * b + 1 * d.val = 1024 * b + d.val; omega) k

theorem piece6 (oh : Vec I S512x2048 .bf16) (x : S512x768.Idx) :
    prod6 (F := I) oh (fun j => entry (wholeScale arg4 (harg4.unread x3)) (chunk arg5 (harg5.unread x4) 10 j (by omega))) x
      = rowTimes oh x3 x4 ((Rect.unit (s := S512x11008) ![0, 10240] ![512, 768] inb_S512x11008_S512x768_0_10240).emb x 0)
          ((Rect.unit (s := S512x11008) ![0, 10240] ![512, 768] inb_S512x11008_S512x768_0_10240).emb x 1) := by
  obtain ⟨r, d, rfl⟩ : ∃ r d, x = ix2 r d := ⟨x 0, x 1, eq_ix2 x⟩
  rw [prod6_apply]
  have h0 : (Rect.unit (s := S512x11008) ![0, 10240] ![512, 768] inb_S512x11008_S512x768_0_10240).emb (ix2 r d) 0 = r := Fin.ext (by
    show 0 + 1 * r.val = r.val; omega)
  rw [h0]
  exact Finset.sum_congr rfl fun k _ => term_eq arg4 harg4 arg5 harg5 x3 x4 oh 10 r d.val (by omega) _ (by
    show 10240 + 1 * d.val = 1024 * 10 + d.val; omega) k

theorem products_agree (oh : Vec I S512x2048 .bf16) :
    ∀ p ∈ products arg4 harg4 arg5 harg5 x3 x4 oh, ∀ x : p.1.shape.Idx, p.2 x = rowTimes oh x3 x4 (p.1.emb x 0) (p.1.emb x 1) := by
  unfold products
  refine List.forall_mem_cons.mpr ⟨piece6 arg4 harg4 arg5 harg5 x3 x4 oh, ?_⟩
  refine List.forall_mem_cons.mpr ⟨piece8 arg4 harg4 arg5 harg5 x3 x4 oh 9 (by omega) _ inb_S512x11008_S512x1024_0_9216 rfl, ?_⟩
  refine List.forall_mem_cons.mpr ⟨piece8 arg4 harg4 arg5 harg5 x3 x4 oh 8 (by omega) _ inb_S512x11008_S512x1024_0_8192 rfl, ?_⟩
  refine List.forall_mem_cons.mpr ⟨piece8 arg4 harg4 arg5 harg5 x3 x4 oh 7 (by omega) _ inb_S512x11008_S512x1024_0_7168 rfl, ?_⟩
  refine List.forall_mem_cons.mpr ⟨piece8 arg4 harg4 arg5 harg5 x3 x4 oh 6 (by omega) _ inb_S512x11008_S512x1024_0_6144 rfl, ?_⟩
  refine List.forall_mem_cons.mpr ⟨piece8 arg4 harg4 arg5 harg5 x3 x4 oh 5 (by omega) _ inb_S512x11008_S512x1024_0_5120 rfl, ?_⟩
  refine List.forall_mem_cons.mpr ⟨piece8 arg4 harg4 arg5 harg5 x3 x4 oh 4 (by omega) _ inb_S512x11008_S512x1024_0_4096 rfl, ?_⟩
  refine List.forall_mem_cons.mpr ⟨piece8 arg4 harg4 arg5 harg5 x3 x4 oh 3 (by omega) _ inb_S512x11008_S512x1024_0_3072 rfl, ?_⟩
  refine List.forall_mem_cons.mpr ⟨piece8 arg4 harg4 arg5 harg5 x3 x4 oh 2 (by omega) _ inb_S512x11008_S512x1024_0_2048 rfl, ?_⟩
  refine List.forall_mem_cons.mpr ⟨piece8 arg4 harg4 arg5 harg5 x3 x4 oh 1 (by omega) _ inb_S512x11008_S512x1024_0_1024 rfl, ?_⟩
  refine List.forall_mem_cons.mpr ⟨piece8 arg4 harg4 arg5 harg5 x3 x4 oh 0 (by omega) _ inb_S512x11008_S512x1024_0_0 rfl, ?_⟩
  exact fun p hp => absurd hp List.not_mem_nil

theorem products_cover (oh : Vec I S512x2048 .bf16) (y : S512x11008.Idx) : ∃ p ∈ products arg4 harg4 arg5 harg5 x3 x4 oh, y ∈ p.1.set := by
  have h0 : (y 0).val < 512 := idx2_lt0 y
  have h1 : (y 1).val < 11008 := idx2_lt1 y
  unfold products
  obtain h | h | h | h | h | h | h | h | h | h | h : (y 1).val / 1024 = 0 ∨ (y 1).val / 1024 = 1 ∨ (y 1).val / 1024 = 2 ∨ (y 1).val / 1024 = 3 ∨ (y 1).val / 1024 = 4
    ∨ (y 1).val / 1024 = 5 ∨ (y 1).val / 1024 = 6 ∨ (y 1).val / 1024 = 7 ∨ (y 1).val / 1024 = 8 ∨ (y 1).val / 1024 = 9 ∨ (y 1).val / 1024 = 10 := by omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    rw [Rect.mem_set_unit]
    intro a
    fin_cases a
    · show 0 ≤ (y 0).val ∧ (y 0).val < 0 + 512
      omega
    · show 0 ≤ (y 1).val ∧ (y 1).val < 0 + 1024
      omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    rw [Rect.mem_set_unit]
    intro a
    fin_cases a
    · show 0 ≤ (y 0).val ∧ (y 0).val < 0 + 512
      omega
    · show 1024 ≤ (y 1).val ∧ (y 1).val < 1024 + 1024
      omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    rw [Rect.mem_set_unit]
    intro a
    fin_cases a
    · show 0 ≤ (y 0).val ∧ (y 0).val < 0 + 512
      omega
    · show 2048 ≤ (y 1).val ∧ (y 1).val < 2048 + 1024
      omega
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
    rw [Rect.mem_set_unit]
    intro a
    fin_cases a
    · show 0 ≤ (y 0).val ∧ (y 0).val < 0 + 512
      omega
    · show 3072 ≤ (y 1).val ∧ (y 1).val < 3072 + 1024
      omega
  · refine ⟨_, List.mem_cons_of_mem _ (List.mem_cons_of_mem _ (List.mem_cons_of_mem _ (List.mem_cons_of_mem _ (List.mem_cons_of_mem _ (List.mem_cons_of_mem _ List.mem_cons_self))))), ?_⟩
    rw [Rect.mem_set_unit]
    intro a
    fin_cases a
    · show 0 ≤ (y 0).val ∧ (y 0).val < 0 + 512
      omega
    · show 4096 ≤ (y 1).val ∧ (y 1).val < 4096 + 1024
      omega
  · refine ⟨_, List.mem_cons_of_mem _ (List.mem_cons_of_mem _ (List.mem_cons_of_mem _ (List.mem_cons_of_mem _ (List.mem_cons_of_mem _ List.mem_cons_self)))), ?_⟩
    rw [Rect.mem_set_unit]
    intro a
    fin_cases a
    · show 0 ≤ (y 0).val ∧ (y 0).val < 0 + 512
      omega
    · show 5120 ≤ (y 1).val ∧ (y 1).val < 5120 + 1024
      omega
  · refine ⟨_, List.mem_cons_of_mem _ (List.mem_cons_of_mem _ (List.mem_cons_of_mem _ (List.mem_cons_of_mem _ List.mem_cons_self))), ?_⟩
    rw [Rect.mem_set_unit]
    intro a
    fin_cases a
    · show 0 ≤ (y 0).val ∧ (y 0).val < 0 + 512
      omega
    · show 6144 ≤ (y 1).val ∧ (y 1).val < 6144 + 1024
      omega
  · refine ⟨_, List.mem_cons_of_mem _ (List.mem_cons_of_mem _ (List.mem_cons_of_mem _ List.mem_cons_self)), ?_⟩
    rw [Rect.mem_set_unit]
    intro a
    fin_cases a
    · show 0 ≤ (y 0).val ∧ (y 0).val < 0 + 512
      omega
    · show 7168 ≤ (y 1).val ∧ (y 1).val < 7168 + 1024
      omega
  · refine ⟨_, List.mem_cons_of_mem _ (List.mem_cons_of_mem _ List.mem_cons_self), ?_⟩
    rw [Rect.mem_set_unit]
    intro a
    fin_cases a
    · show 0 ≤ (y 0).val ∧ (y 0).val < 0 + 512
      omega
    · show 8192 ≤ (y 1).val ∧ (y 1).val < 8192 + 1024
      omega
  · refine ⟨_, List.mem_cons_of_mem _ List.mem_cons_self, ?_⟩
    rw [Rect.mem_set_unit]
    intro a
    fin_cases a
    · show 0 ≤ (y 0).val ∧ (y 0).val < 0 + 512
      omega
    · show 9216 ≤ (y 1).val ∧ (y 1).val < 9216 + 1024
      omega
  · refine ⟨_, List.mem_cons_self, ?_⟩
    rw [Rect.mem_set_unit]
    intro a
    fin_cases a
    · show 0 ≤ (y 0).val ∧ (y 0).val < 0 + 512
      omega
    · show 10240 ≤ (y 1).val ∧ (y 1).val < 10240 + 768
      omega

theorem ohRead_eq (hn : ∀ a r l, x1 (ix3 a r l) = BitVec.ofNat 32 (n a l).val) :
    ohRead (F := I) c i arg1 harg1 arg2 harg2 arg3 harg3 arg4 harg4 arg5 harg5 arg6 harg6 arg7 harg7 arg8 harg8 x0 x1 x2 = oneHot (leafAt x0 n x2) := by
  unfold ohRead
  refine (View.readAt_full arg8.view _ _).trans ((oh_read arg1 (harg1.unread x0) arg2 (harg2.unread x1) arg3 (harg3.unread x2) n Variants.none c none i harg1 harg2 harg3 arg4 harg4 arg5 harg5 arg6 harg6 arg7 harg7 arg8 harg8 (fun a r l => by rw [harg2.read_unread]; exact hn a r l) _).trans ?_)
  unfold leafs
  rw [harg1.read_unread, harg3.read_unread]

/-- The block of products a grid point writes. -/
theorem out_y (hn : ∀ a r l, x1 (ix3 a r l) = BitVec.ofNat 32 (n a l).val) (r : Fin 512) (d : Fin 11008) :
    out0_A_5 (F := I) c i arg1 harg1 arg2 harg2 arg3 harg3 arg4 harg4 arg5 harg5 arg6 harg6 arg7 harg7 arg8 harg8 x0 x1 x2 x3 x4 (ix2 r d) = rowTimes (oneHot (leafAt x0 n x2)) x3 x4 r d := by
  unfold out0_A_5
  rw [y_pieces, ohRead_eq c i arg1 harg1 arg2 harg2 arg3 harg3 arg4 harg4 arg5 harg5 arg6 harg6 arg7 harg7 arg8 harg8 x0 x1 x2 n hn]
  exact View.read_writes_apply_of_pieces _ _ (fun y => rowTimes (oneHot (leafAt x0 n x2)) x3 x4 (y 0) (y 1)) _
    (products_agree arg4 harg4 arg5 harg5 x3 x4 _) (ix2 r d) (products_cover arg4 harg4 arg5 harg5 x3 x4 _ _)

/-- The block of packed codes a grid point writes. -/
theorem out_codes (hn : ∀ a r l, x1 (ix3 a r l) = BitVec.ofNat 32 (n a l).val) :
    out0_A_6 (F := I) c i arg1 harg1 arg2 harg2 arg3 harg3 arg4 harg4 arg5 harg5 arg6 harg6 arg7 harg7 arg8 harg8 x0 x1 x2 x3 x4 = pack (leafAt x0 n x2) := by
  unfold out0_A_6
  rw [codes_pieces]
  refine (codes_read arg1 (harg1.unread x0) arg2 (harg2.unread x1) arg3 (harg3.unread x2) n Variants.none c none i harg1 harg2 harg3 arg4 harg4 arg5 harg5 arg6 harg6 arg7 harg7 arg8 harg8 (fun a r l => by rw [harg2.read_unread]; exact hn a r l) VO0_6 _).trans ?_
  unfold leafs
  rw [harg1.read_unread, harg3.read_unread]

end Cert.KernelIdeal.Hash
-- ==== Proof.Spec.lean ====
module

public import proofs.«01_k».proof.Proof.Leaf
public import Idealize.ShloMosaic.Lib.ValueIdxCore

/-! What the two results are, from the five arguments. -/

@[expose] public section

noncomputable section

namespace Cert.Maddness

open Idealize Idealize.ShloMosaic Idealize.ShloMosaic.ValueIdx
open scoped BigOperators

local notation "I" => ShloMosaic.Ideal

variable (x : Vec I ⟨3, ![8, 2048, 4096]⟩ .bf16) (sd : Vec I ⟨2, ![128, 4]⟩ .i32) (th : Vec I ⟨2, ![128, 15]⟩ .bf16)
variable (lut : Vec I ⟨3, ![128, 16, 11008]⟩ .i8) (sc : Vec I ⟨1, ![128]⟩ .f32)

/-- The split dimensions of codebook `c` lie among the 128 columns of `x` from `128 * (c / 4)`. -/
def InLanes : Prop := ∀ (c : Fin 128) (l : Fin 4), (sd (ix2 c l) : BitVec 32).toNat / 128 = c.val / 4

/-- The column of `x` that level `l` of codebook `c` compares. -/
def splitCol (c : Fin 128) (l : Fin 4) : Fin 4096 := ⟨min (sd (ix2 c l) : BitVec 32).toInt.toNat 4095, by omega⟩

/-- The code of token `T` in codebook `c`. -/
def codeOf (T : Fin 16384) (c : Fin 128) : ℕ :=
  leaf (fun l => x (ix3 ⟨T.val / 2048, by omega⟩ ⟨T.val % 2048, by omega⟩ (splitCol sd c l))) (fun m => th (ix2 c m))

theorem codeOf_lt (T : Fin 16384) (c : Fin 128) : codeOf x sd th T c < 16 := leaf_lt _ _

/-- The product: row `T`'s one-hot codes times column `d` of the scaled table. -/
def productOf (T : Fin 16384) (d : Fin 11008) : EReal :=
  ∑ k : Fin 2048, (if codeOf x sd th T ⟨k.val / 16, by omega⟩ = k.val % 16 then (((1 : ℕ) : ℝ) : EReal) else (((0 : ℕ) : ℝ) : EReal))
    * ((((lut (ix3 ⟨k.val / 16, by omega⟩ ⟨k.val % 16, by omega⟩ d) : BitVec 8).toInt : ℝ) : EReal) * sc (ix1 ⟨k.val / 16, by omega⟩))

/-- The packed codes: codebooks `2 j` and `2 j + 1` of token `T` in one byte. -/
def packedOf (T : Fin 16384) (j : Fin 64) : BitVec 8 :=
  BitVec.ofNat 8 (codeOf x sd th T ⟨2 * j.val, by omega⟩ + 16 * codeOf x sd th T ⟨2 * j.val + 1, by omega⟩)

theorem toInt_of_inLanes (h : InLanes sd) (c : Fin 128) (l : Fin 4) :
    (sd (ix2 c l) : BitVec 32).toInt = (sd (ix2 c l) : BitVec 32).toNat := by
  have := h c l
  exact BitVec.toInt_eq_toNat_of_lt (by omega)

theorem splitCol_val (h : InLanes sd) (c : Fin 128) (l : Fin 4) :
    (splitCol sd c l).val = (sd (ix2 c l) : BitVec 32).toNat := by
  have := h c l
  show min (sd (ix2 c l) : BitVec 32).toInt.toNat 4095 = _
  rw [toInt_of_inLanes sd h]
  omega

end Cert.Maddness
-- ==== Proof.Prefix.lean ====
module

public import proofs.«01_k».proof.Proof.BlockValue
public import proofs.«01_k».proof.Proof.Spec
public import Idealize.ShloMosaic.Lib.Claim
public import Idealize.ShloMosaic.Lib.StableHlo.RunRead

/-! The arrays the kernel is launched on, element by element. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness

local notation "I" => ShloMosaic.Ideal

variable (m : (ℓ : Loc nD τ sig) → Buf (Elt ShloMosaic.Ideal) ℓ) (c : Dev nD)

/-- The five arguments. -/
def argX : Vec I S8x2048x4096 .bf16 := m (c, Proc.tc.devRef main_arg0)
def argSplit : IVec S128x4 32 := m (c, Proc.tc.devRef main_arg1)
def argThr : Vec I S128x15 .bf16 := m (c, Proc.tc.devRef main_arg2)
def argLut : Vec I S128x16x11008 .i8 := m (c, Proc.tc.devRef main_arg3)
def argScale : FVec I S128 .f32 := m (c, Proc.tc.devRef main_arg4)

theorem v26_apply : ∀ (a : Fin 4) (l : Fin 128), (V m c main_v26 : IVec S4x128x1 32) (ix3 a l (0 : Fin 1))
    = BitVec.ofNat 32 (32 * a.val + l.val % 32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  intro a l
  change @Eq (BitVec 32) _ _
  revert c a l
  decide +kernel

theorem v27_apply : ∀ (a : Fin 4) (l : Fin 128), (V m c main_v27 : IVec S4x128x1 32) (ix3 a l (0 : Fin 1))
    = BitVec.ofNat 32 ((l.val / 32 + 4 - a.val) % 4) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  intro a l
  change @Eq (BitVec 32) _ _
  revert c a l
  decide +kernel

theorem v32_apply : ∀ (a : Fin 4) (l : Fin 128), (V m c main_v32 : IVec S4x128 32) (ix2 a l)
    = BitVec.ofNat 32 (128 * ((32 * a.val + l.val % 32) / 4)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  intro a l
  change @Eq (BitVec 32) _ _
  revert c a l
  decide +kernel

/-- The lane numbers, as the host computes them from the codebook, level and base numbers. -/
theorem v35_eq (x y : IVec S4x128x1 32) (z : IVec S4x128 32) (hx : V m c main_v26 = x) (hy : V m c main_v27 = y) (hz : V m c main_v32 = z) :
    (V m c main_v35 : IVec S4x8x128 32) = broadcastInDim S4x8x128 ![0, 1, 2] bcast_S4x1x128_S4x8x128_0_1_2
      (broadcastInDim S4x1x128 ![0, 2] bcast_S4x128_S4x1x128_0_2
        (subi
          (Host.gather gather_S128x4_S4x128x2_S4x128_n_01_n_n_01_2_11 (argSplit m c)
            (concatenate S4x128x2 2
              [⟨S4x128x1, x⟩, ⟨S4x128x1, y⟩] concatenates_S4x128x1_S4x128x1_S4x128x2_d2)) z)) := by
  revert hx hy hz
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  intro hx hy hz
  generalize h26 : StableHlo.upto _ _ _ (Proc.tc.devRef main_v26) = x'
  generalize h27 : StableHlo.upto _ _ _ (Proc.tc.devRef main_v27) = y'
  revert h26 h27
  after_reads_simp
  rw [hx, hy, hz]
  intro h26 h27
  rw [← h26, ← h27]
  rfl

/-- The two start numbers of the gather, side by side. -/
theorem starts_apply (x y : IVec S4x128x1 32) (a : Fin 4) (l : Fin 128) :
    concatenate S4x128x2 2 [⟨S4x128x1, x⟩, ⟨S4x128x1, y⟩] concatenates_S4x128x1_S4x128x1_S4x128x2_d2 (ix3 a l (0 : Fin 2)) = x (ix3 a l (0 : Fin 1))
    ∧ concatenate S4x128x2 2 [⟨S4x128x1, x⟩, ⟨S4x128x1, y⟩] concatenates_S4x128x1_S4x128x1_S4x128x2_d2 (ix3 a l (1 : Fin 2)) = y (ix3 a l (0 : Fin 1)) := by
  constructor
  · refine concatenate_pair_apply_left (t := S4x128x2) (s₁ := S4x128x1) (s₂ := S4x128x1) (2 : Fin 3) x y _ _ rfl (ix3 a l (0 : Fin 1)) ?_
    intro b
    fin_cases b <;> rfl
  · refine concatenate_pair_apply_right (t := S4x128x2) (s₁ := S4x128x1) (s₂ := S4x128x1) (2 : Fin 3) x y _ _ rfl rfl (ix3 a l (0 : Fin 1)) ?_ ?_
    · intro b hb
      fin_cases b
      · rfl
      · rfl
      · exact absurd rfl hb
    · rfl

/-- The gather of single entries of a matrix, read at an index: row and column clamped. -/
theorem gather_entry (v : IVec S128x4 32) (idx : IVec S4x128x2 32) (a : Fin 4) (l : Fin 128) :
    Host.gather gather_S128x4_S4x128x2_S4x128_n_01_n_n_01_2_11 v idx (ix2 a l)
      = v (ix2 ⟨min (idx (ix3 a l (0 : Fin 2))).toInt.toNat 127, by omega⟩ ⟨min (idx (ix3 a l (1 : Fin 2))).toInt.toNat 3, by omega⟩) := by
  unfold Host.gather
  congr 1
  funext b
  refine Fin.ext ?_
  show (gather_S128x4_S4x128x2_S4x128_n_01_n_n_01_2_11).start (ix2 a l) idx b + (gather_S128x4_S4x128x2_S4x128_n_01_n_n_01_2_11).batchCoord (ix2 a l) b
      + (gather_S128x4_S4x128x2_S4x128_n_01_n_n_01_2_11).offCoord (ix2 a l) b = _
  have hb : b ∈ ([0, 1] : List (Fin 2)) := by fin_cases b <;> decide
  rw [GatherDims.batchCoord_eq_zero _ _ _ List.not_mem_nil,
    GatherDims.offCoord_eq_zero _ _ _ (fun h => ((GatherDims.mem_sKept _ _).mp h).1 hb)]
  simp only [Nat.add_zero]
  unfold GatherDims.start
  rw [dif_pos (show b ∈ (gather_S128x4_S4x128x2_S4x128_n_01_n_n_01_2_11).startIndexMap from hb)]
  have h01 : b = 0 ∨ b = 1 := by
    match b with
    | ⟨0, _⟩ => exact Or.inl rfl
    | ⟨1, _⟩ => exact Or.inr rfl
  rcases h01 with rfl | rfl
  · have hsi : (gather_S128x4_S4x128x2_S4x128_n_01_n_n_01_2_11).siIdx (ix2 a l) ⟨List.idxOf (0 : Fin 2) (gather_S128x4_S4x128x2_S4x128_n_01_n_n_01_2_11).startIndexMap,
        List.idxOf_lt_length_iff.2 hb⟩ = ix3 a l (0 : Fin 2) := by
      funext d; refine Fin.ext ?_
      match d with
      | ⟨0, _⟩ => rfl
      | ⟨1, _⟩ => rfl
      | ⟨2, _⟩ => rfl
    rw [hsi]
    rfl
  · have hsi : (gather_S128x4_S4x128x2_S4x128_n_01_n_n_01_2_11).siIdx (ix2 a l) ⟨List.idxOf (1 : Fin 2) (gather_S128x4_S4x128x2_S4x128_n_01_n_n_01_2_11).startIndexMap,
        List.idxOf_lt_length_iff.2 hb⟩ = ix3 a l (1 : Fin 2) := by
      funext d; refine Fin.ext ?_
      match d with
      | ⟨0, _⟩ => rfl
      | ⟨1, _⟩ => rfl
      | ⟨2, _⟩ => rfl
    rw [hsi]
    rfl

theorem toInt_ofNat_small (k : ℕ) (h : k < 1024) : (BitVec.ofNat 32 k).toInt.toNat = k := by
  rw [BitVec.toInt_eq_toNat_of_lt (by rw [BitVec.toNat_ofNat]; omega), BitVec.toNat_ofNat]
  omega

/-- The codebook and the level whose split dimension lane `l` of plane `a` holds. -/
def bookOf (a : Fin 4) (l : Fin 128) : Fin 128 := ⟨32 * a.val + l.val % 32, by omega⟩
def levelOf (a : Fin 4) (l : Fin 128) : Fin 4 := ⟨(l.val / 32 + 4 - a.val) % 4, by omega⟩

theorem lanes_apply (v : IVec S128x4 32) (x y : IVec S4x128x1 32) (z : IVec S4x128 32)
    (hx : ∀ (a : Fin 4) (l : Fin 128), x (ix3 a l (0 : Fin 1)) = BitVec.ofNat 32 (32 * a.val + l.val % 32))
    (hy : ∀ (a : Fin 4) (l : Fin 128), y (ix3 a l (0 : Fin 1)) = BitVec.ofNat 32 ((l.val / 32 + 4 - a.val) % 4))
    (hz : ∀ (a : Fin 4) (l : Fin 128), z (ix2 a l) = BitVec.ofNat 32 (128 * ((32 * a.val + l.val % 32) / 4)))
    (a : Fin 4) (r : Fin 8) (l : Fin 128) :
    broadcastInDim S4x8x128 ![0, 1, 2] bcast_S4x1x128_S4x8x128_0_1_2
      (broadcastInDim S4x1x128 ![0, 2] bcast_S4x128_S4x1x128_0_2
        (subi
          (Host.gather gather_S128x4_S4x128x2_S4x128_n_01_n_n_01_2_11 v
            (concatenate S4x128x2 2
              [⟨S4x128x1, x⟩, ⟨S4x128x1, y⟩] concatenates_S4x128x1_S4x128x1_S4x128x2_d2)) z)) (ix3 a r l)
      = v (ix2 (bookOf a l) (levelOf a l)) - BitVec.ofNat 32 (128 * ((bookOf a l).val / 4)) := by
  refine (congrArg (subi (Host.gather gather_S128x4_S4x128x2_S4x128_n_01_n_n_01_2_11 v
            (concatenate S4x128x2 2
              [⟨S4x128x1, x⟩, ⟨S4x128x1, y⟩] concatenates_S4x128x1_S4x128x1_S4x128x2_d2)) z)
      (show _ = ix2 a l from funext fun b => by fin_cases b <;> rfl)).trans ?_
  refine congrArg₂ (fun p q : BitVec 32 => p - q) ((gather_entry _ _ a l).trans (congrArg v ?_)) (hz a l)
  refine congrArg₂ ix2 (Fin.ext ?_) (Fin.ext ?_)
  · refine (congrArg (fun q : BitVec 32 => min q.toInt.toNat 127) ((starts_apply x y a l).1.trans (hx a l))).trans ?_
    show min _ 127 = 32 * a.val + l.val % 32
    rw [toInt_ofNat_small _ (by omega)]
    omega
  · refine (congrArg (fun q : BitVec 32 => min q.toInt.toNat 3) ((starts_apply x y a l).2.trans (hy a l))).trans ?_
    show min _ 3 = (l.val / 32 + 4 - a.val) % 4
    rw [toInt_ofNat_small _ (by omega)]
    omega

theorem v35_apply (a : Fin 4) (r : Fin 8) (l : Fin 128) :
    (V m c main_v35 : IVec S4x8x128 32) (ix3 a r l)
      = (argSplit m c) (ix2 (bookOf a l) (levelOf a l)) - BitVec.ofNat 32 (128 * ((bookOf a l).val / 4)) :=
  (congrFun (v35_eq m c _ _ _ rfl rfl rfl) _).trans
    (lanes_apply _ _ _ _ (v26_apply m c) (v27_apply m c) (v32_apply m c) a r l)

/-- The lane that plane `a`, lane `l` holds. -/
def laneNo (sd : IVec S128x4 32) (a : Fin 4) (l : Fin 128) : Fin 128 := ⟨(sd (ix2 (bookOf a l) (levelOf a l))).toNat % 128, by omega⟩

theorem v35_laneNo (h : InLanes (argSplit m c)) (a : Fin 4) (r : Fin 8) (l : Fin 128) :
    (V m c main_v35 : IVec S4x8x128 32) (ix3 a r l) = BitVec.ofNat 32 (laneNo (argSplit m c) a l).val := by
  rw [v35_apply]
  have hd := h (bookOf a l) (levelOf a l)
  generalize (argSplit m c) = sd at hd ⊢
  have hb := (bookOf a l).isLt
  refine BitVec.eq_of_toNat_eq ?_
  rw [BitVec.toNat_sub, BitVec.toNat_ofNat, BitVec.toNat_ofNat]
  show _ = (sd (ix2 (bookOf a l) (levelOf a l))).toNat % 128 % 2 ^ 32
  have hs : ∀ s : BitVec 32, s.toNat < 2 ^ 32 := fun s => s.isLt
  have := hs (sd (ix2 (bookOf a l) (levelOf a l)))
  omega

theorem lane_split (sd : IVec S128x4 32) (h : InLanes sd) (b : Fin 128) (l : Fin 4) :
    128 * (b.val / 4) + (laneNo sd ⟨b.val / 32, by omega⟩ ⟨(b.val + 32 * l.val) % 128, by omega⟩).val = (splitCol sd b l).val := by
  rw [splitCol_val sd h]
  have e1 : bookOf ⟨b.val / 32, by omega⟩ ⟨(b.val + 32 * l.val) % 128, by omega⟩ = b := Fin.ext (by
    show 32 * (b.val / 32) + (b.val + 32 * l.val) % 128 % 32 = b.val
    omega)
  have e2 : levelOf ⟨b.val / 32, by omega⟩ ⟨(b.val + 32 * l.val) % 128, by omega⟩ = l := Fin.ext (by
    show ((b.val + 32 * l.val) % 128 / 32 + 4 - b.val / 32) % 4 = l.val
    omega)
  have hd := h b l
  show 128 * (b.val / 4) + (sd (ix2 (bookOf _ _) (levelOf _ _))).toNat % 128 = _
  rw [e1, e2]
  omega

theorem v44_apply (T : Fin 16384) (k : Fin 4096) :
    (V m c main_v44 : Vec I S16384x4096 .bf16) (ix2 T k)
      = (argX m c) (ix3 ⟨T.val / 2048, by omega⟩ ⟨T.val % 2048, by omega⟩ k) := by
  have e : @Eq (Vec I S16384x4096 .bf16) (V m c main_v44) (shapeCast S16384x4096 (argX m c) shapeCasts_S8x2048x4096_S16384x4096) := by
    simp only [V, hostOps0, hostOps0_1, hostOps0_2, hostOps0_3, hostOps0_4, hostOps0_5, hostOps0_6, hostOps0_7, hostOps0_8, List.flatten_cons, List.flatten_nil, List.append_nil, List.cons_append, List.nil_append]
    after_reads_simp
    rfl
  rw [e]
  refine shapeCast_apply _ _ _ _ ?_
  rw [Shape.rowMajor_val_two, Shape.rowMajor_val_three]
  show (T.val / 2048 * 2048 + T.val % 2048) * 4096 + k.val = T.val * 4096 + k.val
  omega

theorem v45_apply (k : Fin 2048) (d : Fin 11008) :
    (V m c main_v45 : Vec I S2048x11008 .i8) (ix2 k d)
      = (argLut m c) (ix3 ⟨k.val / 16, by omega⟩ ⟨k.val % 16, by omega⟩ d) := by
  have e : @Eq (Vec I S2048x11008 .i8) (V m c main_v45) (shapeCast S2048x11008 (argLut m c) shapeCasts_S128x16x11008_S2048x11008) := by
    simp only [V, hostOps0, hostOps0_1, hostOps0_2, hostOps0_3, hostOps0_4, hostOps0_5, hostOps0_6, hostOps0_7, hostOps0_8, List.flatten_cons, List.flatten_nil, List.append_nil, List.cons_append, List.nil_append]
    after_reads_simp
    rfl
  rw [e]
  refine shapeCast_apply _ _ _ _ ?_
  rw [Shape.rowMajor_val_two, Shape.rowMajor_val_three]
  show (k.val / 16 * 16 + k.val % 16) * 11008 + d.val = k.val * 11008 + d.val
  omega

theorem v43_apply (k : Fin 2048) (w : Fin 128) :
    (V m c main_v43 : Vec I S2048x128 .bf16) (ix2 k w)
      = (argScale m c) (ix1 ⟨k.val / 16, by omega⟩) := by
  have e : @Eq (Vec I S2048x128 .bf16) (V m c main_v43) (broadcastInDim S2048x128 ![0, 1] bcast_S2048x1_S2048x128_0_1 (broadcastInDim S2048x1 ![0] bcast_S2048_S2048x1_0
      (shapeCast S2048 (broadcastInDim S128x16 ![0] bcast_S128_S128x16_0 (truncf FTy.bf16 (argScale m c) bitsLt_bf16_f32)) shapeCasts_S128x16_S2048))) := by
    simp only [V, hostOps0, hostOps0_1, hostOps0_2, hostOps0_3, hostOps0_4, hostOps0_5, hostOps0_6, hostOps0_7, hostOps0_8, List.flatten_cons, List.flatten_nil, List.append_nil, List.cons_append, List.nil_append]
    after_reads_simp
    rfl
  rw [e]
  refine (congrArg (shapeCast S2048 (broadcastInDim S128x16 ![0] bcast_S128_S128x16_0 (truncf FTy.bf16 (argScale m c) bitsLt_bf16_f32)) shapeCasts_S128x16_S2048)
    (show _ = ix1 k from funext fun b => by fin_cases b <;> rfl)).trans ?_
  refine (shapeCast_apply _ _ (ix1 k) (ix2 (⟨k.val / 16, by omega⟩ : Fin 128) (⟨k.val % 16, by omega⟩ : Fin 16)) ?_).trans ?_
  · rw [Shape.rowMajor_val_two, Shape.rowMajor_val_one]
    show k.val / 16 * 16 + k.val % 16 = k.val
    omega
  · exact congrArg (argScale m c) (show _ = ix1 _ from funext fun b => by fin_cases b <;> rfl)

theorem v38_apply (j : Fin 15) (r : Fin 16) (b : Fin 128) :
    (V m c main_v38 : Vec I S15x16x128 .bf16) (ix3 j r b)
      = (argThr m c) (ix2 b j) := by
  have e : @Eq (Vec I S15x16x128 .bf16) (V m c main_v38) (broadcastInDim S15x16x128 ![0, 1, 2] bcast_S15x1x128_S15x16x128_0_1_2 (broadcastInDim S15x1x128 ![0, 2] bcast_S15x128_S15x1x128_0_2
      (transpose S15x128 [1, 0] (argThr m c) transposes_S128x15_S15x128_1_0))) := by
    simp only [V, hostOps0, hostOps0_1, hostOps0_2, hostOps0_3, hostOps0_4, hostOps0_5, hostOps0_6, hostOps0_7, hostOps0_8, List.flatten_cons, List.flatten_nil, List.append_nil, List.cons_append, List.nil_append]
    after_reads_simp
    rfl
  rw [e]
  exact congrArg (argThr m c) (show _ = ix2 b j from funext fun b => by fin_cases b <;> rfl)

end Cert.KernelIdeal.Hash
-- ==== Proof.Arrays.lean ====
module

public import proofs.«01_k».proof.Proof.Prefix
public import Idealize.ShloMosaic.Lib.Pipeline.Value

/-! The two arrays the kernel leaves, element by element. -/

@[expose] public section

set_option maxRecDepth 8192

noncomputable section

namespace Cert.KernelIdeal.Hash

open Idealize Idealize.ShloMosaic Idealize.ShloMosaic.TcCoe Cert.KernelIdeal Cert.KernelIdeal.Gen
open Idealize.ShloMosaic.ValueIdx Cert.Maddness
open Idealize.ShloMosaic.Pipeline (Dat)

local notation "I" => ShloMosaic.Ideal

variable (m : (ℓ : Loc nD τ sig) → Buf (Elt ShloMosaic.Ideal) ℓ) (c : Dev nD)

theorem points : cfg0.N = 32 := by decide

/-- The token that row `R` of block `t` is. -/
def tok (t : Fin cfg0.N) (R : Fin 512) : Fin 16384 :=
  ⟨512 * t.val + R.val, by have := Nat.lt_of_lt_of_le t.isLt (Nat.le_of_eq points); omega⟩

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem at2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)

/-! ## The blocks a point reads -/

theorem iblk0_apply (t : Fin cfg0.N) (R : Fin 512) (k : Fin 4096) :
    (iblk m c 0 t : Vec I S512x4096 .bf16) (ix2 R k) = (V m c main_v44 : Vec I S16384x4096 .bf16) (ix2 (tok t R) k) := by
  unfold iblk
  rw [View.read_apply]
  show V m c main_v44 _ = V m c main_v44 _
  congr 1
  funext a
  refine Fin.ext ?_
  match a with
  | ⟨0, _⟩ => show win0_0.index t 0 * 512 + 1 * R.val = 512 * t.val + R.val; rw [(at0 t).1]; omega
  | ⟨1, _⟩ => show win0_0.index t 1 * 4096 + 1 * k.val = k.val; rw [(at0 t).2]; omega

theorem iblk1_apply (t : Fin cfg0.N) (a : Fin 4) (r : Fin 8) (l : Fin 128) :
    (iblk m c 1 t : IVec S4x8x128 32) (ix3 a r l) = (V m c main_v35 : IVec S4x8x128 32) (ix3 a r l) := by
  unfold iblk
  rw [View.read_apply]
  show V m c main_v35 _ = V m c main_v35 _
  congr 1
  funext b
  refine Fin.ext ?_
  match b with
  | ⟨0, _⟩ => show win0_1.index t 0 * 4 + 1 * a.val = a.val; rw [(at1 t).1]; omega
  | ⟨1, _⟩ => show win0_1.index t 1 * 8 + 1 * r.val = r.val; rw [(at1 t).2.1]; omega
  | ⟨2, _⟩ => show win0_1.index t 2 * 128 + 1 * l.val = l.val; rw [(at1 t).2.2]; omega

theorem iblk2_apply (t : Fin cfg0.N) (j : Fin 15) (r : Fin 16) (l : Fin 128) :
    (iblk m c 2 t : Vec I S15x16x128 .bf16) (ix3 j r l) = (V m c main_v38 : Vec I S15x16x128 .bf16) (ix3 j r l) := by
  unfold iblk
  rw [View.read_apply]
  show V m c main_v38 _ = V m c main_v38 _
  congr 1
  funext b
  refine Fin.ext ?_
  match b with
  | ⟨0, _⟩ => show win0_2.index t 0 * 15 + 1 * j.val = j.val; rw [(at2 t).1]; omega
  | ⟨1, _⟩ => show win0_2.index t 1 * 16 + 1 * r.val = r.val; rw [(at2 t).2.1]; omega
  | ⟨2, _⟩ => show win0_2.index t 2 * 128 + 1 * l.val = l.val; rw [(at2 t).2.2]; omega

theorem iblk3_apply (t : Fin cfg0.N) (k : Fin 2048) (w : Fin 128) :
    (iblk m c 3 t : Vec I S2048x128 .bf16) (ix2 k w) = (V m c main_v43 : Vec I S2048x128 .bf16) (ix2 k w) := by
  unfold iblk
  rw [View.read_apply]
  show V m c main_v43 _ = V m c main_v43 _
  congr 1
  funext b
  refine Fin.ext ?_
  match b with
  | ⟨0, _⟩ => show win0_3.index t 0 * 2048 + 1 * k.val = k.val; rw [(at3 t).1]; omega
  | ⟨1, _⟩ => show win0_3.index t 1 * 128 + 1 * w.val = w.val; rw [(at3 t).2]; omega

theorem iblk4_apply (t : Fin cfg0.N) (k : Fin 2048) (d : Fin 11008) :
    (iblk m c 4 t : Vec I S2048x11008 .i8) (ix2 k d) = (V m c main_v45 : Vec I S2048x11008 .i8) (ix2 k d) := by
  unfold iblk
  rw [View.read_apply]
  show V m c main_v45 _ = V m c main_v45 _
  congr 1
  funext b
  refine Fin.ext ?_
  match b with
  | ⟨0, _⟩ => show win0_4.index t 0 * 2048 + 1 * k.val = k.val; rw [(at4 t).1]; omega
  | ⟨1, _⟩ => show win0_4.index t 1 * 11008 + 1 * d.val = d.val; rw [(at4 t).2]; omega

/-- The leaves of a block are the codes of its tokens. -/
theorem leafAt_block (h : InLanes (argSplit m c)) (t : Fin cfg0.N) (R : Fin 512) (b : Fin 128) :
    leafAt (iblk m c 0 t) (laneNo (argSplit m c)) (iblk m c 2 t) R b
      = codeOf (argX m c) (argSplit m c) (argThr m c) (tok t R) b := by
  unfold leafAt codeOf
  refine congrArg₂ leaf (funext fun l => ?_) (funext fun j => ?_)
  · refine (iblk0_apply m c t R _).trans ((v44_apply m c _ _).trans (congrArg (argX m c) ?_))
    exact congrArg (ix3 _ _) (Fin.ext (lane_split (argSplit m c) h b l))
  · exact (iblk2_apply m c t j _ b).trans (v38_apply m c j _ b)

/-! ## The arrays -/

/-- The product array. -/
def prodArr : Vec I S16384x11008 .bf16 := fun y =>
  productOf (argX m c) (argSplit m c) (argThr m c) (argLut m c) (argScale m c) ⟨(y 0).val, idx2_lt0 y⟩ ⟨(y 1).val, idx2_lt1 y⟩

/-- The packed array. -/
def packArr : Vec I S16384x64 .i8 := fun y =>
  packedOf (argX m c) (argSplit m c) (argThr m c) ⟨(y 0).val, idx2_lt0 y⟩ ⟨(y 1).val, idx2_lt1 y⟩

theorem lanes (h : InLanes (argSplit m c)) (t : Fin cfg0.N) (a : Fin 4) (r : Fin 8) (l : Fin 128) :
    (iblk m c 1 t : IVec S4x8x128 32) (ix3 a r l) = BitVec.ofNat 32 (laneNo (argSplit m c) a l).val :=
  (iblk1_apply m c t a r l).trans (v35_laneNo m c h a r l)

theorem block_y (h : InLanes (argSplit m c)) (t : Fin cfg0.N) (R : Fin 512) (d : Fin 11008) :
    rowTimes (oneHot (leafAt (iblk m c 0 t) (laneNo (argSplit m c)) (iblk m c 2 t))) (iblk m c 3 t) (iblk m c 4 t) R d
      = prodArr m c (ix2 (tok t R) d) := by
  show _ = productOf (argX m c) (argSplit m c) (argThr m c) (argLut m c) (argScale m c) (tok t R) d
  unfold rowTimes productOf
  refine Finset.sum_congr rfl fun k _ => ?_
  refine congrArg₂ (· * ·) ?_ (congrArg₂ (· * ·) ?_ ?_)
  · show (if leafAt (iblk m c 0 t) (laneNo (argSplit m c)) (iblk m c 2 t) R ⟨k.val / 16, by omega⟩ = k.val % 16 then num 1 else num 0) = _
    rw [leafAt_block m c h]
    rfl
  · exact congrArg (fun q : BitVec 8 => (((q.toInt : ℝ)) : EReal)) ((iblk4_apply m c t k d).trans (v45_apply m c k d))
  · exact (iblk3_apply m c t k _).trans (v43_apply m c k _)

theorem block_codes (h : InLanes (argSplit m c)) (t : Fin cfg0.N) (R : Fin 512) (j : Fin 64) :
    pack (leafAt (iblk m c 0 t) (laneNo (argSplit m c)) (iblk m c 2 t)) (ix2 R j) = packArr m c (ix2 (tok t R) j) := by
  show BitVec.ofNat 8 (leafAt (iblk m c 0 t) (laneNo (argSplit m c)) (iblk m c 2 t) R ⟨2 * j.val, by omega⟩
    + 16 * leafAt (iblk m c 0 t) (laneNo (argSplit m c)) (iblk m c 2 t) R ⟨2 * j.val + 1, by omega⟩) = _
  rw [leafAt_block m c h, leafAt_block m c h]
  rfl

theorem flushed_y (h : InLanes (argSplit m c)) (t : Fin cfg0.N) :
    (dats m 0 c).flushed 5 t = ((cfg0.win 5).blk t).view.read (Elt I) (prodArr m c) := by
  rw [Value.flushed5_A]
  funext j
  obtain ⟨R, d, rfl⟩ : ∃ (R : Fin 512) (d : Fin 11008), j = ix2 R d := ⟨j 0, j 1, eq_ix2 j⟩
  refine (out_y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (laneNo (argSplit m c)) (lanes m c h t) R d).trans ?_
  rw [block_y m c h, View.read_apply]
  show prodArr m c _ = prodArr m c _
  congr 1
  funext a
  refine Fin.ext ?_
  match a with
  | ⟨0, _⟩ => show 512 * t.val + R.val = win0_5.index t 0 * 512 + 1 * R.val; rw [(at5 t).1]; omega
  | ⟨1, _⟩ => show d.val = win0_5.index t 1 * 11008 + 1 * d.val; rw [(at5 t).2]; omega

theorem flushed_codes (h : InLanes (argSplit m c)) (t : Fin cfg0.N) :
    (dats m 0 c).flushed 6 t = ((cfg0.win 6).blk t).view.read (Elt I) (packArr m c) := by
  rw [Value.flushed6_A]
  funext j
  obtain ⟨R, d, rfl⟩ : ∃ (R : Fin 512) (d : Fin 64), j = ix2 R d := ⟨j 0, j 1, eq_ix2 j⟩
  refine (congrFun (out_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (laneNo (argSplit m c)) (lanes m c h t)) (ix2 R d)).trans ?_
  rw [block_codes m c h, View.read_apply]
  show packArr m c _ = packArr m c _
  congr 1
  funext a
  refine Fin.ext ?_
  match a with
  | ⟨0, _⟩ => show 512 * t.val + R.val = win0_6.index t 0 * 512 + 1 * R.val; rw [(at6 t).1]; omega
  | ⟨1, _⟩ => show d.val = win0_6.index t 1 * 64 + 1 * d.val; rw [(at6 t).2]; omega

theorem cover_y (i : S16384x11008.Idx) : ∃ t : Fin cfg0.N, (cfg0.win 5).flush t = true ∧ i ∈ ((cfg0.win 5).blk t).view.set := by
  have h0 : (i 0 : ℕ) < 16384 := (i 0).isLt
  have h1 : (i 1 : ℕ) < 11008 := (i 1).isLt
  refine ⟨⟨(i 0 : ℕ) / 512, Nat.lt_of_lt_of_le (by omega : (i 0 : ℕ) / 512 < 32) (Nat.le_of_eq points.symm)⟩, flush0_5 _, ?_⟩
  generalize ht : (⟨(i 0 : ℕ) / 512, _⟩ : Fin cfg0.N) = t
  have hv : t.val = (i 0 : ℕ) / 512 := by rw [← ht]
  show i ∈ ((View.whole main_v46_0).slice (win0_5.rect t)).set
  rw [View.set_slice_whole, Rect.mem_set_unit]
  intro a
  match a with
  | ⟨0, _⟩ => show win0_5.index t 0 * 512 ≤ (i 0 : ℕ) ∧ (i 0 : ℕ) < win0_5.index t 0 * 512 + 512; rw [(at5 t).1]; omega
  | ⟨1, _⟩ => show win0_5.index t 1 * 11008 ≤ (i 1 : ℕ) ∧ (i 1 : ℕ) < win0_5.index t 1 * 11008 + 11008; rw [(at5 t).2]; omega

theorem cover_codes (i : S16384x64.Idx) : ∃ t : Fin cfg0.N, (cfg0.win 6).flush t = true ∧ i ∈ ((cfg0.win 6).blk t).view.set := by
  have h0 : (i 0 : ℕ) < 16384 := (i 0).isLt
  have h1 : (i 1 : ℕ) < 64 := (i 1).isLt
  refine ⟨⟨(i 0 : ℕ) / 512, Nat.lt_of_lt_of_le (by omega : (i 0 : ℕ) / 512 < 32) (Nat.le_of_eq points.symm)⟩, flush0_6 _, ?_⟩
  generalize ht : (⟨(i 0 : ℕ) / 512, _⟩ : Fin cfg0.N) = t
  have hv : t.val = (i 0 : ℕ) / 512 := by rw [← ht]
  show i ∈ ((View.whole main_v46_1).slice (win0_6.rect t)).set
  rw [View.set_slice_whole, Rect.mem_set_unit]
  intro a
  match a with
  | ⟨0, _⟩ => show win0_6.index t 0 * 512 ≤ (i 0 : ℕ) ∧ (i 0 : ℕ) < win0_6.index t 0 * 512 + 512; rw [(at6 t).1]; omega
  | ⟨1, _⟩ => show win0_6.index t 1 * 64 ≤ (i 1 : ℕ) ∧ (i 1 : ℕ) < win0_6.index t 1 * 64 + 64; rw [(at6 t).2]; omega

/-- The kernel leaves the product in its first result, -/
theorem final_y (h : InLanes (argSplit m c)) : (dats m 0 c).arrAt 5 cfg0.N = prodArr m c :=
  Dat.arrAt_eq_of_cover (dats m 0 c) 5 (prodArr m c) (fun t _ => flushed_y m c h t) cover_y

/-- and the packed codes in its second. -/
theorem final_codes (h : InLanes (argSplit m c)) : (dats m 0 c).arrAt 6 cfg0.N = packArr m c :=
  Dat.arrAt_eq_of_cover (dats m 0 c) 6 (packArr m c) (fun t _ => flushed_codes m c h t) cover_codes

end Cert.KernelIdeal.Hash
-- ==== Proof.RefCode.lean ====
module

public import proofs.«01_k».proof.Proof.Gen.ReferenceIdeal.Run
public import proofs.«01_k».proof.Proof.Spec
public import Idealize.ShloMosaic.Lib.Pipeline.Value
public import Idealize.ShloMosaic.Lib.StackMember

/-! The codes the reference computes. -/

@[expose] public section

set_option maxRecDepth 8192

noncomputable section

namespace Cert.ReferenceIdeal.Math

open Idealize Idealize.ShloMosaic Idealize.ShloMosaic.TcCoe Cert.ReferenceIdeal Cert.ReferenceIdeal.Gen
open Idealize.ShloMosaic.ValueIdx Cert.Maddness Cert.ReferenceIdeal.Value

local notation "I" => ShloMosaic.Ideal

variable (V0 : Valuation τ sig (Elt ShloMosaic.Ideal))

/-- The five arguments. -/
def argX : FVec I S8x2048x4096 .bf16 := V0 (Proc.devRef .tc main_arg0)
def argSplit : IVec S128x4 32 := V0 (Proc.devRef .tc main_arg1)
def argThr : FVec I S128x15 .bf16 := V0 (Proc.devRef .tc main_arg2)
def argLut : IVec S128x16x11008 8 := V0 (Proc.devRef .tc main_arg3)
def argScale : FVec I S128 .f32 := V0 (Proc.devRef .tc main_arg4)

/-- The gather of columns, read at an index: the column clamped. -/
theorem gather_col (v : FVec I S8x2048x4096 .bf16) (idx : IVec S128x4x1 32) (a : Fin 8) (b : Fin 2048) (c : Fin 128) (l : Fin 4) :
    Host.gather gather_S8x2048x4096_S128x4x1_S8x2048x128x4_01_2_n_n_2_2_820481 v idx (ix4 a b c l)
      = v (ix3 a b ⟨min (idx (ix3 c l (0 : Fin 1))).toInt.toNat 4095, by omega⟩) := by
  unfold Host.gather
  congr 1
  funext e
  refine Fin.ext ?_
  show (gather_S8x2048x4096_S128x4x1_S8x2048x128x4_01_2_n_n_2_2_820481).start (ix4 a b c l) idx e + (gather_S8x2048x4096_S128x4x1_S8x2048x128x4_01_2_n_n_2_2_820481).batchCoord (ix4 a b c l) e
      + (gather_S8x2048x4096_S128x4x1_S8x2048x128x4_01_2_n_n_2_2_820481).offCoord (ix4 a b c l) e = _
  rw [GatherDims.batchCoord_eq_zero _ _ _ List.not_mem_nil]
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show (0 : Fin 3) ∉ (gather_S8x2048x4096_S128x4x1_S8x2048x128x4_01_2_n_n_2_2_820481).startIndexMap from (by decide : (0 : Fin 3) ∉ ([2] : List (Fin 3))))]
    simp only [Nat.zero_add, Nat.add_zero]
    unfold GatherDims.offCoord
    rw [dif_pos ((GatherDims.mem_sKept _ _).mpr ⟨(by decide : (0 : Fin 3) ∉ ([2] : List (Fin 3))), List.not_mem_nil⟩)]
    rfl
  · unfold GatherDims.start
    rw [dif_neg (show (1 : Fin 3) ∉ (gather_S8x2048x4096_S128x4x1_S8x2048x128x4_01_2_n_n_2_2_820481).startIndexMap from (by decide : (1 : Fin 3) ∉ ([2] : List (Fin 3))))]
    simp only [Nat.zero_add, Nat.add_zero]
    unfold GatherDims.offCoord
    rw [dif_pos ((GatherDims.mem_sKept _ _).mpr ⟨(by decide : (1 : Fin 3) ∉ ([2] : List (Fin 3))), List.not_mem_nil⟩)]
    rfl
  · have hb : (2 : Fin 3) ∈ ([2] : List (Fin 3)) := by decide
    rw [GatherDims.offCoord_eq_zero _ _ _ (fun h => ((GatherDims.mem_sKept _ _).mp h).1 hb)]
    simp only [Nat.add_zero]
    unfold GatherDims.start
    rw [dif_pos (show (2 : Fin 3) ∈ (gather_S8x2048x4096_S128x4x1_S8x2048x128x4_01_2_n_n_2_2_820481).startIndexMap from hb)]
    have hsi : (gather_S8x2048x4096_S128x4x1_S8x2048x128x4_01_2_n_n_2_2_820481).siIdx (ix4 a b c l) ⟨List.idxOf (2 : Fin 3) (gather_S8x2048x4096_S128x4x1_S8x2048x128x4_01_2_n_n_2_2_820481).startIndexMap,
        List.idxOf_lt_length_iff.2 hb⟩ = ix3 c l (0 : Fin 1) := by
      funext d; refine Fin.ext ?_
      match d with
      | ⟨0, _⟩ => rfl
      | ⟨1, _⟩ => rfl
      | ⟨2, _⟩ => rfl
    rw [hsi]
    rfl

/-- The columns the gather reads: a split dimension in range is taken as it is. -/
def wrapped (sd : IVec S128x4 32) : IVec S128x4x1 32 :=
  broadcastInDim S128x4x1 ![0, 1] bcast_S128x4_S128x4x1_0_1 (select (cmpi .slt sd (broadcastInDim S128x4 ![] bcast_S_S128x4 (constantI S_ 32 0#32)))
    (addi sd (broadcastInDim S128x4 ![] bcast_S_S128x4 (constantI S_ 32 4096#32))) sd)

theorem wrapped_apply (sd : IVec S128x4 32) (h : InLanes sd) (c : Fin 128) (l : Fin 4) :
    wrapped sd (ix3 c l (0 : Fin 1)) = sd (ix2 c l) := by
  have hi : (wrapped sd (ix3 c l (0 : Fin 1)) : BitVec 32) = if (BitVec.ofBool ((sd (ix2 c l)).slt 0#32)) = 1#1 then sd (ix2 c l) + 4096#32 else sd (ix2 c l) := by
    have hx : (fun e => if h : (S128x4).size e = 1 then (⟨0, by omega⟩ : Fin ((S128x4).size e)) else ix2 c l e) = ix2 c l := by
      funext e
      match e with
      | ⟨0, _⟩ => rfl
      | ⟨1, _⟩ => rfl
    have hw : ∀ q : IVec S128x4 32, broadcastInDim S128x4x1 ![0, 1] bcast_S128x4_S128x4x1_0_1 q (ix3 c l (0 : Fin 1)) = q (ix2 c l) := by
      intro q
      unfold broadcastInDim
      congr 1
      funext e
      match e with
      | ⟨0, _⟩ => rfl
      | ⟨1, _⟩ => rfl
    unfold wrapped
    rw [hw]
    rfl
  rw [hi]
  have hn : (sd (ix2 c l)).slt 0#32 = false := by
    have := toInt_of_inLanes sd h c l
    unfold BitVec.slt
    rw [this]
    simp
  rw [hn]
  rfl

theorem gathered_apply (h : InLanes (argSplit V0)) (a : Fin 8) (b : Fin 2048) (c : Fin 128) (l : Fin 4) :
    @Eq EReal ((res_main_v6 V0 : FVec I S8x2048x128x4 .bf16) (ix4 a b c l)) (argX V0 (ix3 a b (splitCol (argSplit V0) c l))) := by
  refine (gather_col (argX V0) (wrapped (argSplit V0)) a b c l).trans ?_
  refine congrArg (argX V0) (congrArg (ix3 a b) (Fin.ext ?_))
  show min (wrapped (argSplit V0) (ix3 c l (0 : Fin 1))).toInt.toNat 4095 = min (argSplit V0 (ix2 c l)).toInt.toNat 4095
  rw [wrapped_apply _ h]

theorem col_slices : ∀ j : Fin 15, S128x15.Slices ![0, j.val] S128x1 := by decide

/-- Column `j` of the thresholds, at every token. -/
def col (th : FVec I S128x15 .bf16) (j : Fin 15) : FVec I S8x2048x128 .bf16 :=
  broadcastInDim S8x2048x128 ![2] bcast_S128_S8x2048x128_2 (shapeCast S128 (extractStridedSlice S128x1 ![0, j.val] th (col_slices j)) shapeCasts_S128x1_S128)

theorem col_apply (th : FVec I S128x15 .bf16) (j : Fin 15) (a : Fin 8) (b : Fin 2048) (c : Fin 128) : col th j (ix3 a b c) = th (ix2 c j) := by
  have hw : ∀ q : FVec I S128 .bf16, broadcastInDim S8x2048x128 ![2] bcast_S128_S8x2048x128_2 q (ix3 a b c) = q (ix1 c) := by
    intro q
    unfold broadcastInDim
    congr 1
    funext e
    match e with
    | ⟨0, _⟩ => rfl
  unfold col
  rw [hw, shapeCast_apply _ _ (ix1 c) (ix2 c (0 : Fin 1)) (by
    rw [Shape.rowMajor_val_one, Shape.rowMajor_val_two]
    show c.val * 1 + 0 = c.val
    omega)]
  show th _ = _
  congr 1
  funext e
  match e with
  | ⟨0, _⟩ => exact Fin.ext (Nat.zero_add _)
  | ⟨1, _⟩ => exact Fin.ext (Nat.add_zero _)

theorem lvl_slices : ∀ l : Fin 4, S8x2048x128x4.Slices ![0, 0, 0, l.val] S8x2048x128x1 := by decide

/-- Level `l` of the split values. -/
def lvl (xs : FVec I S8x2048x128x4 .bf16) (l : Fin 4) : FVec I S8x2048x128 .bf16 :=
  shapeCast S8x2048x128 (extractStridedSlice S8x2048x128x1 ![0, 0, 0, l.val] xs (lvl_slices l)) shapeCasts_S8x2048x128x1_S8x2048x128

theorem lvl_apply (xs : FVec I S8x2048x128x4 .bf16) (l : Fin 4) (a : Fin 8) (b : Fin 2048) (c : Fin 128) :
    lvl xs l (ix3 a b c) = xs (ix4 a b c l) := by
  unfold lvl
  rw [shapeCast_apply _ _ (ix3 a b c) (ix4 a b c (0 : Fin 1)) (by
    rw [Shape.rowMajor_val_three, Shape.rowMajor_val_four]
    show ((a.val * 2048 + b.val) * 128 + c.val) * 1 + 0 = (a.val * 2048 + b.val) * 128 + c.val
    omega)]
  show xs _ = _
  congr 1
  funext e
  match e with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.add_zero _)

/-- A number at every token and codebook. -/
def every (k : BitVec 32) : IVec S8x2048x128 32 := broadcastInDim S8x2048x128 ![] bcast_S_S8x2048x128 (constantI S_ 32 k)

/-- One level of the tree. -/
def child (n : IVec S8x2048x128 32) (xl t : FVec I S8x2048x128 .bf16) : IVec S8x2048x128 32 :=
  addi (muli (every 2#32) n) (extui 32 (cmpf .ogt xl t) natLt_1_32)

/-- The threshold `A` at the nodes numbered `k`, and `B` elsewhere. -/
def pick (k : BitVec 32) (n : IVec S8x2048x128 32) (A B : FVec I S8x2048x128 .bf16) : FVec I S8x2048x128 .bf16 :=
  select (cmpi .eq n (every k)) A B

theorem pick_apply (k : BitVec 32) (n : IVec S8x2048x128 32) (A B : FVec I S8x2048x128 .bf16) (i : S8x2048x128.Idx) :
    pick k n A B i = if n i = k then A i else B i := by
  show (if BitVec.ofBool (n i == k) = 1#1 then A i else B i) = _
  by_cases h : n i = k
  · rw [if_pos h, beq_iff_eq.mpr h]; rfl
  · rw [if_neg h, beq_eq_false_iff_ne.mpr h]; rfl

theorem child_apply (n : IVec S8x2048x128 32) (xl t : FVec I S8x2048x128 .bf16) (T : Fin 15 → EReal) (base N : ℕ) (i : S8x2048x128.Idx)
    (hn : n i = BitVec.ofNat 32 N) (ht : @Eq EReal (t i) (T (Fin.ofNat 15 (base + N)))) :
    child n xl t i = BitVec.ofNat 32 (step (xl i) T base N) := by
  have hg : cmpf .ogt xl t i = BitVec.ofBool (decide (t i < xl i)) := by
    show Ideal.cmp .ogt (xl i) (t i) = _
    unfold Ideal.cmp
    congr
  show 2#32 * n i + (cmpf .ogt xl t i).setWidth 32 = _
  rw [hn, hg]
  unfold step
  rw [← ht]
  by_cases h : t i < xl i
  · rw [if_pos h, decide_eq_true h, BitVec.ofNat_add, BitVec.ofNat_mul]; rfl
  · rw [if_neg h, decide_eq_false h, BitVec.ofNat_add, BitVec.ofNat_mul]; rfl

/-- The nodes the four levels reach. -/
def node1 (xs : FVec I S8x2048x128x4 .bf16) (th : FVec I S128x15 .bf16) : IVec S8x2048x128 32 := child (every 0#32) (lvl xs 0) (col th 0)
def node2 (xs : FVec I S8x2048x128x4 .bf16) (th : FVec I S128x15 .bf16) : IVec S8x2048x128 32 :=
  child (node1 xs th) (lvl xs 1) (pick 1#32 (node1 xs th) (col th 2) (col th 1))
def node3 (xs : FVec I S8x2048x128x4 .bf16) (th : FVec I S128x15 .bf16) : IVec S8x2048x128 32 :=
  child (node2 xs th) (lvl xs 2) (pick 3#32 (node2 xs th) (col th 6) (pick 2#32 (node2 xs th) (col th 5)
    (pick 1#32 (node2 xs th) (col th 4) (col th 3))))
def node4 (xs : FVec I S8x2048x128x4 .bf16) (th : FVec I S128x15 .bf16) : IVec S8x2048x128 32 :=
  child (node3 xs th) (lvl xs 3) (pick 7#32 (node3 xs th) (col th 14) (pick 6#32 (node3 xs th) (col th 13)
    (pick 5#32 (node3 xs th) (col th 12) (pick 4#32 (node3 xs th) (col th 11) (pick 3#32 (node3 xs th) (col th 10)
      (pick 2#32 (node3 xs th) (col th 9) (pick 1#32 (node3 xs th) (col th 8) (col th 7))))))))

theorem v17_eq : res_main_v17 V0 = node1 (res_main_v6 V0) (argThr V0) := rfl
theorem v32_eq : res_main_v32 V0 = node2 (res_main_v6 V0) (argThr V0) := rfl
theorem v57_eq : res_main_v57 V0 = node3 (res_main_v6 V0) (argThr V0) := rfl
theorem v103_eq : res_main_v103 V0 = shapeCast S8x2048x64x2 (node4 (res_main_v6 V0) (argThr V0)) shapeCasts_S8x2048x128_S8x2048x64x2 := rfl

section

variable (xs : FVec I S8x2048x128x4 .bf16) (th : FVec I S128x15 .bf16) (a : Fin 8) (b : Fin 2048) (c : Fin 128)

theorem node1_apply : node1 xs th (ix3 a b c) = BitVec.ofNat 32 (step (xs (ix4 a b c 0)) (fun j => th (ix2 c j)) 0 0) := by
  unfold node1
  rw [child_apply _ _ _ (fun j => th (ix2 c j)) 0 0 _ rfl (col_apply th 0 a b c), lvl_apply]

theorem node2_apply : node2 xs th (ix3 a b c) = BitVec.ofNat 32 (step (xs (ix4 a b c 1)) (fun j => th (ix2 c j)) 1
    (step (xs (ix4 a b c 0)) (fun j => th (ix2 c j)) 0 0)) := by
  have hN := step_lt (xs (ix4 a b c 0)) (fun j => th (ix2 c j)) 0 0 1 (by omega)
  have hn := node1_apply xs th a b c
  unfold node2
  revert hN hn
  generalize step (xs (ix4 a b c 0)) (fun j => th (ix2 c j)) 0 0 = N
  intro hN hn
  rw [child_apply _ _ _ (fun j => th (ix2 c j)) 1 N _ hn ?_, lvl_apply]
  rw [pick_apply, hn, col_apply, col_apply]
  interval_cases N <;> rfl

theorem node3_apply : node3 xs th (ix3 a b c) = BitVec.ofNat 32 (step (xs (ix4 a b c 2)) (fun j => th (ix2 c j)) 3
    (step (xs (ix4 a b c 1)) (fun j => th (ix2 c j)) 1 (step (xs (ix4 a b c 0)) (fun j => th (ix2 c j)) 0 0))) := by
  have hN := step_lt (xs (ix4 a b c 1)) (fun j => th (ix2 c j)) 1 _ 2 (step_lt (xs (ix4 a b c 0)) (fun j => th (ix2 c j)) 0 0 1 (by omega))
  have hn := node2_apply xs th a b c
  unfold node3
  revert hN hn
  generalize step (xs (ix4 a b c 1)) (fun j => th (ix2 c j)) 1 (step (xs (ix4 a b c 0)) (fun j => th (ix2 c j)) 0 0) = N
  intro hN hn
  rw [child_apply _ _ _ (fun j => th (ix2 c j)) 3 N _ hn ?_, lvl_apply]
  simp only [pick_apply, hn, col_apply]
  interval_cases N <;> rfl

theorem node4_apply : node4 xs th (ix3 a b c) = BitVec.ofNat 32 (leaf (fun l => xs (ix4 a b c l)) (fun j => th (ix2 c j))) := by
  have hN := step_lt (xs (ix4 a b c 2)) (fun j => th (ix2 c j)) 3 _ 4 (step_lt (xs (ix4 a b c 1)) (fun j => th (ix2 c j)) 1 _ 2 (step_lt (xs (ix4 a b c 0)) (fun j => th (ix2 c j)) 0 0 1 (by omega)))
  have hn := node3_apply xs th a b c
  unfold node4 leaf
  revert hN hn
  show _ → _ → _ = BitVec.ofNat 32 (step (xs (ix4 a b c 3)) (fun j => th (ix2 c j)) 7 (step (xs (ix4 a b c 2)) (fun j => th (ix2 c j)) 3
    (step (xs (ix4 a b c 1)) (fun j => th (ix2 c j)) 1 (step (xs (ix4 a b c 0)) (fun j => th (ix2 c j)) 0 0))))
  generalize step (xs (ix4 a b c 2)) (fun j => th (ix2 c j)) 3
    (step (xs (ix4 a b c 1)) (fun j => th (ix2 c j)) 1 (step (xs (ix4 a b c 0)) (fun j => th (ix2 c j)) 0 0)) = N
  intro hN hn
  rw [child_apply _ _ _ (fun j => th (ix2 c j)) 7 N _ hn ?_, lvl_apply]
  simp only [pick_apply, hn, col_apply]
  interval_cases N <;> rfl

end

/-- Token `b` of batch `a`. -/
abbrev tok (a : Fin 8) (b : Fin 2048) : Fin 16384 := ⟨a.val * 2048 + b.val, by omega⟩

/-- The code of a token, as the reference computes it. -/
abbrev code (a : Fin 8) (b : Fin 2048) (c : Fin 128) : ℕ := codeOf (argX V0) (argSplit V0) (argThr V0) (tok a b) c

theorem codes_apply (h : InLanes (argSplit V0)) (a : Fin 8) (b : Fin 2048) (c : Fin 128) :
    node4 (res_main_v6 V0) (argThr V0) (ix3 a b c) = BitVec.ofNat 32 (code V0 a b c) := by
  rw [node4_apply]
  unfold code codeOf
  refine congrArg (fun X => BitVec.ofNat 32 (leaf X _)) (funext fun l => ?_)
  refine (gathered_apply V0 h a b c l).trans ?_
  refine congrArg (argX V0) ?_
  have e1 : (⟨(tok a b).val / 2048, by omega⟩ : Fin 8) = a := Fin.ext (by show (a.val * 2048 + b.val) / 2048 = a.val; omega)
  have e2 : (⟨(tok a b).val % 2048, by omega⟩ : Fin 2048) = b := Fin.ext (by show (a.val * 2048 + b.val) % 2048 = b.val; omega)
  rw [e1, e2]

theorem v103_apply (h : InLanes (argSplit V0)) (a : Fin 8) (b : Fin 2048) (j : Fin 64) (e : Fin 2) :
    (res_main_v103 V0 : IVec S8x2048x64x2 32) (ix4 a b j e) = BitVec.ofNat 32 (code V0 a b ⟨2 * j.val + e.val, by omega⟩) := by
  rw [v103_eq, shapeCast_apply _ _ (ix4 a b j e) (ix3 a b (⟨2 * j.val + e.val, by omega⟩ : Fin 128)) (by
    rw [Shape.rowMajor_val_three, Shape.rowMajor_val_four]
    show (a.val * 2048 + b.val) * 128 + (2 * j.val + e.val) = ((a.val * 2048 + b.val) * 64 + j.val) * 2 + e.val
    omega)]
  exact codes_apply V0 h a b _

theorem pair_slices : ∀ e : Fin 2, S8x2048x64x2.Slices ![0, 0, 0, e.val] S8x2048x64x1 := by decide

/-- One of each pair of codes. -/
def half (v : IVec S8x2048x64x2 32) (e : Fin 2) : IVec S8x2048x64 32 :=
  shapeCast S8x2048x64 (extractStridedSlice S8x2048x64x1 ![0, 0, 0, e.val] v (pair_slices e)) shapeCasts_S8x2048x64x1_S8x2048x64

theorem half_apply (v : IVec S8x2048x64x2 32) (e : Fin 2) (a : Fin 8) (b : Fin 2048) (j : Fin 64) :
    half v e (ix3 a b j) = v (ix4 a b j e) := by
  unfold half
  rw [shapeCast_apply _ _ (ix3 a b j) (ix4 a b j (0 : Fin 1)) (by
    rw [Shape.rowMajor_val_three, Shape.rowMajor_val_four]
    show ((a.val * 2048 + b.val) * 64 + j.val) * 1 + 0 = (a.val * 2048 + b.val) * 64 + j.val
    omega)]
  show v _ = _
  congr 1
  funext e'
  match e' with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.add_zero _)

theorem v110_eq : res_main_v110 V0 = ori (half (res_main_v103 V0) 0)
    (Host.shli (half (res_main_v103 V0) 1) (broadcastInDim S8x2048x64 ![] bcast_S_S8x2048x64 (constantI S_ 32 4#32))) := rfl

theorem pack_bits : ∀ p q : Fin 16, BitVec.ofNat 32 p.val ||| (BitVec.ofNat 32 q.val) <<< 4#32 = BitVec.ofNat 32 (p.val + 16 * q.val) := by
  decide +kernel

theorem v110_apply (h : InLanes (argSplit V0)) (a : Fin 8) (b : Fin 2048) (j : Fin 64) :
    (res_main_v110 V0 : IVec S8x2048x64 32) (ix3 a b j)
      = BitVec.ofNat 32 (code V0 a b ⟨2 * j.val, by omega⟩ + 16 * code V0 a b ⟨2 * j.val + 1, by omega⟩) := by
  rw [v110_eq]
  show half (res_main_v103 V0) 0 (ix3 a b j) ||| (half (res_main_v103 V0) 1 (ix3 a b j)) <<< 4#32 = _
  rw [half_apply, half_apply, v103_apply V0 h, v103_apply V0 h]
  exact pack_bits ⟨_, codeOf_lt _ _ _ _ _⟩ ⟨_, codeOf_lt _ _ _ _ _⟩

end Cert.ReferenceIdeal.Math
-- ==== Proof.RefValue.lean ====
module

public import proofs.«01_k».proof.Proof.RefCode

/-! The reference's two results, element by element. -/

@[expose] public section

set_option maxRecDepth 8192

noncomputable section

namespace Cert.ReferenceIdeal.Math

open Idealize Idealize.ShloMosaic Idealize.ShloMosaic.TcCoe Cert.ReferenceIdeal Cert.ReferenceIdeal.Gen
open Idealize.ShloMosaic.ValueIdx Cert.Maddness Cert.ReferenceIdeal.Value
open scoped BigOperators

local notation "I" => ShloMosaic.Ideal

variable (V0 : Valuation τ sig (Elt ShloMosaic.Ideal))

theorem tok_split (T : Fin 16384) : tok ⟨T.val / 2048, by omega⟩ ⟨T.val % 2048, by omega⟩ = T :=
  Fin.ext (by show T.val / 2048 * 2048 + T.val % 2048 = T.val; omega)

/-- The packed codes the reference returns. -/
def packed : IVec S16384x64 8 := shapeCast S16384x64 (trunci 8 (res_main_v110 V0 : IVec S8x2048x64 32) natLt_8_32) shapeCasts_S8x2048x64_S16384x64

theorem packed_apply (h : InLanes (argSplit V0)) (T : Fin 16384) (j : Fin 64) :
    packed V0 (ix2 T j) = packedOf (argX V0) (argSplit V0) (argThr V0) T j := by
  unfold packed
  rw [shapeCast_apply _ _ (ix2 T j) (ix3 (⟨T.val / 2048, by omega⟩ : Fin 8) (⟨T.val % 2048, by omega⟩ : Fin 2048) j) (by
    rw [Shape.rowMajor_val_three, Shape.rowMajor_val_two]
    show (T.val / 2048 * 2048 + T.val % 2048) * 64 + j.val = T.val * 64 + j.val
    omega)]
  show BitVec.setWidth 8 ((res_main_v110 V0 : IVec S8x2048x64 32) (ix3 _ _ j)) = _
  rw [v110_apply V0 h]
  unfold code packedOf
  rw [tok_split]
  refine BitVec.eq_of_toNat_eq ?_
  rw [BitVec.toNat_setWidth, BitVec.toNat_ofNat, BitVec.toNat_ofNat]
  have h0 := codeOf_lt (argX V0) (argSplit V0) (argThr V0) T ⟨2 * j.val, by omega⟩
  have h1 := codeOf_lt (argX V0) (argSplit V0) (argThr V0) T ⟨2 * j.val + 1, by omega⟩
  omega

/-- The codes unpacked from the bytes: the low and the high four bits, side by side. -/
def unpacked (p : IVec S8x2048x64 32) : IVec S8x2048x128 32 :=
  shapeCast S8x2048x128 (concatenate S8x2048x64x2 3
    [⟨S8x2048x64x1, broadcastInDim S8x2048x64x1 ![0, 1, 2] bcast_S8x2048x64_S8x2048x64x1_0_1_2 (andi p (broadcastInDim S8x2048x64 ![] bcast_S_S8x2048x64 (constantI S_ 32 15#32)))⟩,
     ⟨S8x2048x64x1, broadcastInDim S8x2048x64x1 ![0, 1, 2] bcast_S8x2048x64_S8x2048x64x1_0_1_2 (Host.shrsi p (broadcastInDim S8x2048x64 ![] bcast_S_S8x2048x64 (constantI S_ 32 4#32)))⟩]
    concatenates_S8x2048x64x1_S8x2048x64x1_S8x2048x64x2_d3) shapeCasts_S8x2048x64x2_S8x2048x128

theorem sides_apply (x y : IVec S8x2048x64x1 32) (a : Fin 8) (b : Fin 2048) (j : Fin 64) :
    concatenate S8x2048x64x2 3 [⟨S8x2048x64x1, x⟩, ⟨S8x2048x64x1, y⟩] concatenates_S8x2048x64x1_S8x2048x64x1_S8x2048x64x2_d3 (ix4 a b j (0 : Fin 2)) = x (ix4 a b j (0 : Fin 1))
    ∧ concatenate S8x2048x64x2 3 [⟨S8x2048x64x1, x⟩, ⟨S8x2048x64x1, y⟩] concatenates_S8x2048x64x1_S8x2048x64x1_S8x2048x64x2_d3 (ix4 a b j (1 : Fin 2)) = y (ix4 a b j (0 : Fin 1)) := by
  constructor
  · refine concatenate_pair_apply_left (t := S8x2048x64x2) (s₁ := S8x2048x64x1) (s₂ := S8x2048x64x1) (3 : Fin 4) x y _ _ rfl (ix4 a b j (0 : Fin 1)) ?_
    intro e
    fin_cases e <;> rfl
  · refine concatenate_pair_apply_right (t := S8x2048x64x2) (s₁ := S8x2048x64x1) (s₂ := S8x2048x64x1) (3 : Fin 4) x y _ _ rfl rfl (ix4 a b j (0 : Fin 1)) ?_ ?_
    · intro e he
      fin_cases e
      · rfl
      · rfl
      · rfl
      · exact absurd rfl he
    · rfl

theorem deep_apply (q : IVec S8x2048x64 32) (a : Fin 8) (b : Fin 2048) (j : Fin 64) :
    broadcastInDim S8x2048x64x1 ![0, 1, 2] bcast_S8x2048x64_S8x2048x64x1_0_1_2 q (ix4 a b j (0 : Fin 1)) = q (ix3 a b j) := by
  unfold broadcastInDim
  congr 1
  funext e
  match e with
  | ⟨0, _⟩ => rfl
  | ⟨1, _⟩ => rfl
  | ⟨2, _⟩ => rfl

theorem low_bits : ∀ p q : Fin 16, BitVec.ofNat 32 (p.val + 16 * q.val) &&& 15#32 = BitVec.ofNat 32 p.val := by decide +kernel
theorem high_bits : ∀ p q : Fin 16, (BitVec.ofNat 32 (p.val + 16 * q.val)).sshiftRight' 4#32 = BitVec.ofNat 32 q.val := by decide +kernel

theorem unpacked_apply (p : IVec S8x2048x64 32) (g : Fin 128 → Fin 16) (a : Fin 8) (b : Fin 2048) (c : Fin 128)
    (hp : p (ix3 a b ⟨c.val / 2, by omega⟩)
      = BitVec.ofNat 32 ((g ⟨2 * (c.val / 2), by omega⟩).val + 16 * (g ⟨2 * (c.val / 2) + 1, by omega⟩).val)) :
    unpacked p (ix3 a b c) = BitVec.ofNat 32 (g c).val := by
  unfold unpacked
  rcases Nat.mod_two_eq_zero_or_one c.val with h2 | h2
  · rw [shapeCast_apply _ _ (ix3 a b c) (ix4 a b (⟨c.val / 2, by omega⟩ : Fin 64) (0 : Fin 2)) (by
      rw [Shape.rowMajor_val_three, Shape.rowMajor_val_four]
      show ((a.val * 2048 + b.val) * 64 + c.val / 2) * 2 + 0 = (a.val * 2048 + b.val) * 128 + c.val
      omega), (sides_apply _ _ _ _ _).1, deep_apply]
    show p (ix3 a b ⟨c.val / 2, _⟩) &&& 15#32 = _
    rw [hp, low_bits]
    have e : (⟨2 * (c.val / 2), by omega⟩ : Fin 128) = c := Fin.ext (by show 2 * (c.val / 2) = c.val; omega)
    rw [e]
  · rw [shapeCast_apply _ _ (ix3 a b c) (ix4 a b (⟨c.val / 2, by omega⟩ : Fin 64) (1 : Fin 2)) (by
      rw [Shape.rowMajor_val_three, Shape.rowMajor_val_four]
      show ((a.val * 2048 + b.val) * 64 + c.val / 2) * 2 + 1 = (a.val * 2048 + b.val) * 128 + c.val
      omega), (sides_apply _ _ _ _ _).2, deep_apply]
    show (p (ix3 a b ⟨c.val / 2, _⟩)).sshiftRight' 4#32 = _
    rw [hp, high_bits]
    have e : (⟨2 * (c.val / 2) + 1, by omega⟩ : Fin 128) = c := Fin.ext (by show 2 * (c.val / 2) + 1 = c.val; omega)
    rw [e]

/-- The one-hot codes, one row of 2048 for each token. -/
def onehot (u : IVec S8x2048x128 32) : FVec I S8x2048x2048 .bf16 :=
  shapeCast S8x2048x2048 (uitofp .bf16 (cmpi .eq
    (broadcastInDim S8x2048x128x16 ![0, 1, 2, 3] bcast_S8x2048x128x1_S8x2048x128x16_0_1_2_3 (broadcastInDim S8x2048x128x1 ![0, 1, 2] bcast_S8x2048x128_S8x2048x128x1_0_1_2 u))
    (broadcastInDim S8x2048x128x16 ![0, 1, 2, 3] bcast_S1x1x1x16_S8x2048x128x16_0_1_2_3 (broadcastInDim S1x1x1x16 ![3] bcast_S16_S1x1x1x16_3 (iotaInDim S16 32 0)))))
    shapeCasts_S8x2048x128x16_S8x2048x2048

theorem spread_apply (u : IVec S8x2048x128 32) (a : Fin 8) (b : Fin 2048) (c : Fin 128) (e : Fin 16) :
    broadcastInDim S8x2048x128x16 ![0, 1, 2, 3] bcast_S8x2048x128x1_S8x2048x128x16_0_1_2_3 (broadcastInDim S8x2048x128x1 ![0, 1, 2] bcast_S8x2048x128_S8x2048x128x1_0_1_2 u) (ix4 a b c e)
      = u (ix3 a b c) := by
  unfold broadcastInDim
  congr 1
  funext e
  match e with
  | ⟨0, _⟩ => rfl
  | ⟨1, _⟩ => rfl
  | ⟨2, _⟩ => rfl

theorem bit_num : ∀ p q : Fin 16, (IntOp.cmpi .eq (BitVec.ofNat 32 p.val) (BitVec.ofNat 32 q.val)).toNat = if p.val = q.val then 1 else 0 := by decide +kernel

theorem onehot_apply (u : IVec S8x2048x128 32) (g : Fin 16) (a : Fin 8) (b : Fin 2048) (k : Fin 2048)
    (hu : u (ix3 a b ⟨k.val / 16, by omega⟩) = BitVec.ofNat 32 g.val) :
    @Eq EReal (onehot u (ix3 a b k)) (if g.val = k.val % 16 then (((1 : ℕ) : ℝ) : EReal) else (((0 : ℕ) : ℝ) : EReal)) := by
  unfold onehot
  rw [shapeCast_apply _ _ (ix3 a b k) (ix4 a b (⟨k.val / 16, by omega⟩ : Fin 128) (⟨k.val % 16, by omega⟩ : Fin 16)) (by
    rw [Shape.rowMajor_val_three, Shape.rowMajor_val_four]
    show ((a.val * 2048 + b.val) * 128 + k.val / 16) * 16 + k.val % 16 = (a.val * 2048 + b.val) * 2048 + k.val
    omega)]
  show (((IntOp.cmpi .eq (broadcastInDim S8x2048x128x16 ![0, 1, 2, 3] bcast_S8x2048x128x1_S8x2048x128x16_0_1_2_3 (broadcastInDim S8x2048x128x1 ![0, 1, 2] bcast_S8x2048x128_S8x2048x128x1_0_1_2 u)
    (ix4 a b (⟨k.val / 16, by omega⟩ : Fin 128) (⟨k.val % 16, by omega⟩ : Fin 16))) (BitVec.ofNat 32 (k.val % 16))).toNat : ℝ) : EReal) = _
  rw [spread_apply, hu, bit_num g ⟨k.val % 16, by omega⟩]
  show (((if g.val = k.val % 16 then 1 else 0 : ℕ) : ℝ) : EReal) = _
  split_ifs <;> rfl

/-- The scaled table, 2048 rows. -/
def table (lut : IVec S128x16x11008 8) (sc : FVec I S128 .f32) : FVec I S2048x11008 .bf16 :=
  shapeCast S2048x11008 (mulf (sitofp .bf16 (extsi 32 lut natLt_8_32))
    (broadcastInDim S128x16x11008 ![0, 1, 2] bcast_S128x1x1_S128x16x11008_0_1_2 (broadcastInDim S128x1x1 ![0] bcast_S128_S128x1x1_0 (truncf .bf16 sc bitsLt_bf16_f32))))
    shapeCasts_S128x16x11008_S2048x11008

theorem scale_apply (q : FVec I S128 .bf16) (c : Fin 128) (e : Fin 16) (d : Fin 11008) :
    broadcastInDim S128x16x11008 ![0, 1, 2] bcast_S128x1x1_S128x16x11008_0_1_2 (broadcastInDim S128x1x1 ![0] bcast_S128_S128x1x1_0 q) (ix3 c e d) = q (ix1 c) := by
  unfold broadcastInDim
  congr 1
  funext e
  match e with
  | ⟨0, _⟩ => rfl

theorem table_apply (lut : IVec S128x16x11008 8) (sc : FVec I S128 .f32) (k : Fin 2048) (d : Fin 11008) :
    @Eq EReal (table lut sc (ix2 k d)) ((((lut (ix3 ⟨k.val / 16, by omega⟩ ⟨k.val % 16, by omega⟩ d)).toInt : ℝ) : EReal) * sc (ix1 ⟨k.val / 16, by omega⟩)) := by
  unfold table
  rw [shapeCast_apply _ _ (ix2 k d) (ix3 (⟨k.val / 16, by omega⟩ : Fin 128) (⟨k.val % 16, by omega⟩ : Fin 16) d) (by
    rw [Shape.rowMajor_val_three, Shape.rowMajor_val_two]
    show (k.val / 16 * 16 + k.val % 16) * 11008 + d.val = k.val * 11008 + d.val
    omega)]
  show ((((((lut (ix3 (⟨k.val / 16, by omega⟩ : Fin 128) (⟨k.val % 16, by omega⟩ : Fin 16) d)).signExtend 32).toInt : ℝ) : EReal)) : EReal)
    * broadcastInDim S128x16x11008 ![0, 1, 2] bcast_S128x1x1_S128x16x11008_0_1_2 (broadcastInDim S128x1x1 ![0] bcast_S128_S128x1x1_0 (truncf .bf16 sc bitsLt_bf16_f32))
      (ix3 (⟨k.val / 16, by omega⟩ : Fin 128) (⟨k.val % 16, by omega⟩ : Fin 16) d) = _
  rw [scale_apply, BitVec.toInt_signExtend_of_le (by omega)]
  rfl

theorem dot_apply (A : FVec I S8x2048x2048 .bf16) (B : FVec I S2048x11008 .bf16) (a : Fin 8) (b : Fin 2048) (d : Fin 11008) :
    @Eq EReal (Host.dotGeneral (so := S8x2048x11008) dot_S8x2048x2048_S2048x11008_S8x2048x11008_2_0_01_1_n_n none A B (ix3 a b d))
      (∑ k : Fin 2048, (A (ix3 a b k) : EReal) * B (ix2 k d)) := by
  show FloatOps.dotGeneral _ none _ A B (ix3 a b d) = _
  rw [Ideal.dotGeneral_apply, ← Equiv.sum_comp (contrEquiv1 dot_S8x2048x2048_S2048x11008_S8x2048x11008_2_0_01_1_n_n 2048 rfl rfl).symm]
  refine Finset.sum_congr rfl fun k _ => ?_
  have c3 := contrEquiv1_symm_val dot_S8x2048x2048_S2048x11008_S8x2048x11008_2_0_01_1_n_n 2048 rfl rfl k
  have l3 : dot_S8x2048x2048_S2048x11008_S8x2048x11008_2_0_01_1_n_n.lhsIdx (ix3 a b d) ((contrEquiv1 _ 2048 rfl rfl).symm k) = ix3 a b k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : dot_S8x2048x2048_S2048x11008_S8x2048x11008_2_0_01_1_n_n.rhsIdx (ix3 a b d) ((contrEquiv1 _ 2048 rfl rfl).symm k) = ix2 k d := by
    funext ax; apply Fin.ext
    match ax with
    | ⟨0, _⟩ => simp [DotDims.rhsIdx]; exact c3
    | ⟨1, _⟩ => simp [DotDims.rhsIdx]; rfl
  rw [l3, r3]

/-- The product the reference returns. -/
def prod : FVec I S16384x11008 .bf16 :=
  shapeCast S16384x11008 (truncf .bf16 (Host.dotGeneral (so := S8x2048x11008) dot_S8x2048x2048_S2048x11008_S8x2048x11008_2_0_01_1_n_n none
    (onehot (unpacked (res_main_v110 V0))) (table (argLut V0) (argScale V0))) bitsLt_bf16_f32) shapeCasts_S8x2048x11008_S16384x11008

theorem prod_apply (h : InLanes (argSplit V0)) (T : Fin 16384) (d : Fin 11008) :
    @Eq EReal (prod V0 (ix2 T d)) (productOf (argX V0) (argSplit V0) (argThr V0) (argLut V0) (argScale V0) T d) := by
  unfold prod
  rw [shapeCast_apply _ _ (ix2 T d) (ix3 (⟨T.val / 2048, by omega⟩ : Fin 8) (⟨T.val % 2048, by omega⟩ : Fin 2048) d) (by
    rw [Shape.rowMajor_val_three, Shape.rowMajor_val_two]
    show (T.val / 2048 * 2048 + T.val % 2048) * 11008 + d.val = T.val * 11008 + d.val
    omega)]
  refine (dot_apply _ _ _ _ d).trans ?_
  show _ = productOf _ _ _ _ _ _ _
  unfold productOf
  refine Finset.sum_congr rfl fun k _ => ?_
  refine congrArg₂ (fun p q : EReal => p * q) ?_ (table_apply _ _ k d)
  refine onehot_apply _ ⟨codeOf (argX V0) (argSplit V0) (argThr V0) T ⟨k.val / 16, by omega⟩, codeOf_lt _ _ _ _ _⟩ _ _ k ?_
  refine unpacked_apply _ (fun c => ⟨codeOf (argX V0) (argSplit V0) (argThr V0) T c, codeOf_lt _ _ _ _ _⟩) _ _ _ ?_
  refine (v110_apply V0 h _ _ _).trans ?_
  unfold code
  rw [tok_split]

end Cert.ReferenceIdeal.Math
-- ==== Proof.Equation.lean ====
module

public import proofs.«01_k».proof.Pre_splits_in_lanes
public import proofs.«01_k».proof.Proof.Arrays
public import proofs.«01_k».proof.Proof.RefValue

/-! The kernel's two result arrays are the reference's, under the precondition. -/

@[expose] public section

set_option maxRecDepth 8192

noncomputable section

namespace Cert.Maddness

open Idealize Idealize.ShloMosaic Idealize.ShloMosaic.TcCoe Idealize.ShloMosaic.ValueIdx

local notation "I" => ShloMosaic.Ideal

/-- The shape facts the precondition's operations take. -/
instance preFacts : Cert.Pre_splits_in_lanes.Facts where
  bcast_S_S128x4 := by decide
  bcast_S_S128 := by decide
  bcast_S128_S128x1_0 := by decide
  bcast_S128x1_S128x4_0_1 := by decide

theorem quarter_bits : ∀ c : Fin 128, (BitVec.ofNat 32 c.val).sshiftRight' 2#32 = BitVec.ofNat 32 (c.val / 4) := by decide +kernel

theorem lane_of_shift (x : BitVec 32) (k : ℕ) (hk : k < 32) (h : x.sshiftRight' 7#32 = BitVec.ofNat 32 k) : x.toNat / 128 = k := by
  have h1 : (x.sshiftRight 7).toInt = (BitVec.ofNat 32 k).toInt := congrArg BitVec.toInt h
  rw [BitVec.toInt_sshiftRight, Int.shiftRight_eq_div_pow, BitVec.toInt_eq_toNat_of_lt (x := BitVec.ofNat 32 k) (by rw [BitVec.toNat_ofNat]; omega),
    BitVec.toNat_ofNat] at h1
  have h2 := x.toInt_eq_toNat_cond
  have h3 := x.isLt
  split at h2 <;> omega

/-- The precondition says that the split dimensions lie in their lanes. -/
theorem inLanes_of_pre (x : FVec I ⟨3, ![8, 2048, 4096]⟩ .bf16) (sd : IVec ⟨2, ![128, 4]⟩ 32) (th : FVec I ⟨2, ![128, 15]⟩ .bf16)
    (lut : IVec ⟨3, ![128, 16, 11008]⟩ 8) (sc : FVec I ⟨1, ![128]⟩ .f32)
    (h : Cert.Pre_splits_in_lanes.fn x sd th lut sc = fun _ => 1#1) : InLanes sd := by
  intro c l
  have hi := congrFun h (ix2 c l)
  have hs : BitVec.ofBool ((sd (ix2 c l)).sshiftRight' 7#32 == (BitVec.ofNat 32 c.val).sshiftRight' 2#32) = 1#1 := hi
  refine lane_of_shift _ _ (by omega) ?_
  rw [← quarter_bits]
  by_contra hne
  rw [beq_eq_false_iff_ne.mpr hne] at hs
  exact absurd hs (by decide)

section

open Cert.ReferenceIdeal

variable (m : (ℓ : Loc Cert.KernelIdeal.nD Cert.KernelIdeal.τ Cert.KernelIdeal.sig) → Buf (Elt ShloMosaic.Ideal) ℓ) (c : Dev Cert.KernelIdeal.nD)
variable (V0 : Valuation Cert.ReferenceIdeal.τ Cert.ReferenceIdeal.sig (Elt ShloMosaic.Ideal))
variable (h0 : Math.argX V0 = Cert.KernelIdeal.Hash.argX m c) (h1 : Math.argSplit V0 = Cert.KernelIdeal.Hash.argSplit m c)
variable (h2 : Math.argThr V0 = Cert.KernelIdeal.Hash.argThr m c) (h3 : Math.argLut V0 = Cert.KernelIdeal.Hash.argLut m c)
variable (h4 : Math.argScale V0 = Cert.KernelIdeal.Hash.argScale m c) (h : InLanes (Cert.KernelIdeal.Hash.argSplit m c))

include h0 h1 h2 h in
theorem packed_eq : Math.packed V0 = Cert.KernelIdeal.Hash.packArr m c := by
  funext y
  rw [eq_ix2 y]
  refine (Math.packed_apply V0 (by rw [h1]; exact h) _ _).trans ?_
  rw [h0, h1, h2]
  rfl

include h0 h1 h2 h3 h4 h in
theorem prod_eq : Math.prod V0 = Cert.KernelIdeal.Hash.prodArr m c := by
  funext y
  rw [eq_ix2 y]
  refine (Math.prod_apply V0 (by rw [h1]; exact h) _ _).trans ?_
  rw [h0, h1, h2, h3, h4]
  rfl

end

end Cert.Maddness
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Bf16Pair
public import Idealize.ShloMosaic.Lib.Quiescent

@[expose] public section

set_option maxRecDepth 8192

noncomputable section

namespace Cert.Proof

open Idealize.ShloMosaic Idealize.SL.Sem Cert.Maddness

/-- The idealized kernel and the reference end with equal results. -/
theorem algebraic : Cert.algebraic_KernelIdeal_ReferenceIdeal_pre_splits_in_lanes := by
  intro m g m' g' hpre hagree
  have hin : ∀ c, InLanes (Cert.KernelIdeal.Hash.argSplit m c) := fun c => inLanes_of_pre _ _ _ _ _ (hpre c)
  refine ⟨fun c => Cert.KernelIdeal.Hash.prodArr m c, fun c => Cert.KernelIdeal.Hash.packArr m c, ?_, ?_⟩
  · exact (θ_run _ _ _).mono (fun _ h c => ⟨(h c).1.trans (Cert.KernelIdeal.Hash.final_y m c (hin c)),
      (h c).2.1.trans (Cert.KernelIdeal.Hash.final_codes m c (hin c)), (h c).2.2⟩) (Cert.KernelIdeal.Value.run_blocks m g)
  · exact (θ_run _ _ _).mono (fun _ h c => ⟨(h c).1.trans (prod_eq m c (StableHlo.launchContents m' c) (hagree c).1 (hagree c).2.1 (hagree c).2.2.1 (hagree c).2.2.2.1 (hagree c).2.2.2.2 (hin c)),
      (h c).2.1.trans (packed_eq m c (StableHlo.launchContents m' c) (hagree c).1 (hagree c).2.1 (hagree c).2.2.1 (hin c)), (h c).2.2⟩) (Cert.ReferenceIdeal.Value.run m' g')

theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2, sem_eq_zero_of_no_sems (by decide) r.2⟩) (Cert.ReferenceIdeal.Value.run m ρ),
  fun m ρ _ => (θ_run Cert.ReferenceIdeal.defs _ _).mono (fun r h => ⟨fun c => (h c).2.2, sem_eq_zero_of_no_sems (by decide) r.2⟩) (Cert.ReferenceIdeal.Value.run m ρ),
  ⟨IdealRules.bf16_pair.statement Cert.KernelIdeal.S16x128 Cert.KernelIdeal.S8x128, IdealRules.bf16_pair.packStatement Cert.KernelIdeal.S8x128⟩,
  algebraic⟩

end Cert.Proof

end
